-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_22" .f32 0x3D3A2E8C#32 ((1 / 22 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x22x3 : Shape := ⟨4, ![32, 64, 22, 3]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1024x512 : Shape := ⟨2, ![1024, 512]⟩
abbrev S1024x256 : Shape := ⟨2, ![1024, 256]⟩
abbrev S1024 : Shape := ⟨1, ![1024]⟩
abbrev S512x512 : Shape := ⟨2, ![512, 512]⟩
abbrev S22 : Shape := ⟨1, ![22]⟩
abbrev S22x22 : Shape := ⟨2, ![22, 22]⟩
abbrev S64x1408 : Shape := ⟨2, ![64, 1408]⟩
abbrev S2048x22x3 : Shape := ⟨3, ![2048, 22, 3]⟩
abbrev S22x2048x3 : Shape := ⟨3, ![22, 2048, 3]⟩
abbrev S45056x3 : Shape := ⟨2, ![45056, 3]⟩
abbrev S_ : Shape := ⟨0, ![]⟩
abbrev S1x22 : Shape := ⟨2, ![1, 22]⟩
abbrev S22x1 : Shape := ⟨2, ![22, 1]⟩
abbrev S1x64 : Shape := ⟨2, ![1, 64]⟩
abbrev S1x128 : Shape := ⟨2, ![1, 128]⟩
abbrev S1x256 : Shape := ⟨2, ![1, 256]⟩
abbrev S1x512 : Shape := ⟨2, ![1, 512]⟩
abbrev S512x1024 : Shape := ⟨2, ![512, 1024]⟩
abbrev S1x1024 : Shape := ⟨2, ![1, 1024]⟩
abbrev S256x1024 : Shape := ⟨2, ![256, 1024]⟩
abbrev S32x512 : Shape := ⟨2, ![32, 512]⟩
abbrev S5632x3 : Shape := ⟨2, ![5632, 3]⟩
abbrev S32x64x1024 : Shape := ⟨3, ![32, 64, 1024]⟩
abbrev S22x3 : Shape := ⟨2, ![22, 3]⟩
abbrev S5632x64 : Shape := ⟨2, ![5632, 64]⟩
abbrev S22x64 : Shape := ⟨2, ![22, 64]⟩
abbrev S5632x128 : Shape := ⟨2, ![5632, 128]⟩
abbrev S22x128 : Shape := ⟨2, ![22, 128]⟩
abbrev S5632x256 : Shape := ⟨2, ![5632, 256]⟩
abbrev S22x256 : Shape := ⟨2, ![22, 256]⟩
abbrev S5632x512 : Shape := ⟨2, ![5632, 512]⟩
abbrev S22x512 : Shape := ⟨2, ![22, 512]⟩
abbrev S1408x512 : Shape := ⟨2, ![1408, 512]⟩
abbrev S64x512 : Shape := ⟨2, ![64, 512]⟩
abbrev S256x1 : Shape := ⟨2, ![256, 1]⟩
abbrev S4x64x1024 : Shape := ⟨3, ![4, 64, 1024]⟩
abbrev S32x256 : Shape := ⟨2, ![32, 256]⟩
abbrev S32x1x1024 : Shape := ⟨3, ![32, 1, 1024]⟩
abbrev S32x1024 : Shape := ⟨2, ![32, 1024]⟩

abbrev nBuf : Space → Nat
  | .hbm => 61
  | .vmem => 23
  | .smem => 0
  | _ => 0

abbrev bufTy : (tb : Table) → Fin (tcTables nBuf tb) → BufTy
  | .hbm, ⟨0, _⟩ => ⟨S32x64x22x3, .f32⟩
  | .hbm, ⟨1, _⟩ => ⟨S3x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S1024x512, .f32⟩
  | .hbm, ⟨10, _⟩ => ⟨S1024x256, .f32⟩
  | .hbm, ⟨11, _⟩ => ⟨S1024, .f32⟩
  | .hbm, ⟨12, _⟩ => ⟨S1024, .f32⟩
  | .hbm, ⟨13, _⟩ => ⟨S1024x512, .f32⟩
  | .hbm, ⟨14, _⟩ => ⟨S1024x256, .f32⟩
  | .hbm, ⟨15, _⟩ => ⟨S1024, .f32⟩
  | .hbm, ⟨16, _⟩ => ⟨S1024, .f32⟩
  | .hbm, ⟨17, _⟩ => ⟨S512x512, .f32⟩
  | .hbm, ⟨18, _⟩ => ⟨S512, .f32⟩
  | .hbm, ⟨19, _⟩ => ⟨S22, .f32⟩
  | .hbm, ⟨20, _⟩ => ⟨S22x22, .f32⟩
  | .hbm, ⟨21, _⟩ => ⟨S64x1408, .f32⟩
  | .hbm, ⟨22, _⟩ => ⟨S2048x22x3, .f32⟩
  | .hbm, ⟨23, _⟩ => ⟨S22x2048x3, .f32⟩
  | .hbm, ⟨24, _⟩ => ⟨S45056x3, .f32⟩
  | .hbm, ⟨25, _⟩ => ⟨S_, .f32⟩
  | .hbm, ⟨26, _⟩ => ⟨S22, .f32⟩
  | .hbm, ⟨27, _⟩ => ⟨S22, .f32⟩
  | .hbm, ⟨28, _⟩ => ⟨S1x22, .f32⟩
  | .hbm, ⟨29, _⟩ => ⟨S22x22, .f32⟩
  | .hbm, ⟨30, _⟩ => ⟨S22x22, .f32⟩
  | .hbm, ⟨31, _⟩ => ⟨S22x1, .f32⟩
  | .hbm, ⟨32, _⟩ => ⟨S22x22, .f32⟩
  | .hbm, ⟨33, _⟩ => ⟨S22x22, .f32⟩
  | .hbm, ⟨34, _⟩ => ⟨S3x64, .bf16⟩
  | .hbm, ⟨35, _⟩ => ⟨S1x64, .f32⟩
  | .hbm, ⟨36, _⟩ => ⟨S1x64, .bf16⟩
  | .hbm, ⟨37, _⟩ => ⟨S64x128, .bf16⟩
  | .hbm, ⟨38, _⟩ => ⟨S1x128, .f32⟩
  | .hbm, ⟨39, _⟩ => ⟨S1x128, .bf16⟩
  | .hbm, ⟨40, _⟩ => ⟨S128x256, .bf16⟩
  | .hbm, ⟨41, _⟩ => ⟨S1x256, .f32⟩
  | .hbm, ⟨42, _⟩ => ⟨S1x256, .bf16⟩
  | .hbm, ⟨43, _⟩ => ⟨S256x512, .bf16⟩
  | .hbm, ⟨44, _⟩ => ⟨S1x512, .f32⟩
  | .hbm, ⟨45, _⟩ => ⟨S1x512, .bf16⟩
  | .hbm, ⟨46, _⟩ => ⟨S64x1408, .bf16⟩
  | .hbm, ⟨47, _⟩ => ⟨S512x1024, .f32⟩
  | .hbm, ⟨48, _⟩ => ⟨S512x1024, .bf16⟩
  | .hbm, ⟨49, _⟩ => ⟨S1024, .f32⟩
  | .hbm, ⟨50, _⟩ => ⟨S1x1024, .f32⟩
  | .hbm, ⟨51, _⟩ => ⟨S512x1024, .f32⟩
  | .hbm, ⟨52, _⟩ => ⟨S512x1024, .bf16⟩
  | .hbm, ⟨53, _⟩ => ⟨S1024, .f32⟩
  | .hbm, ⟨54, _⟩ => ⟨S1x1024, .f32⟩
  | .hbm, ⟨55, _⟩ => ⟨S256x1024, .f32⟩
  | .hbm, ⟨56, _⟩ => ⟨S256x1024, .bf16⟩
  | .hbm, ⟨57, _⟩ => ⟨S256x1024, .f32⟩
  | .hbm, ⟨58, _⟩ => ⟨S256x1024, .bf16⟩
  | .hbm, ⟨59, _⟩ => ⟨S1x512, .f32⟩
  | .hbm, ⟨60, _⟩ => ⟨S32x512, .f32⟩
  | .local _ .vmem, ⟨0, _⟩ => ⟨S5632x3, .f32⟩
  | .local _ .vmem, ⟨1, _⟩ => ⟨S5632x3, .f32⟩
  | .local _ .vmem, ⟨2, _⟩ => ⟨S3x64, .bf16⟩
  | .local _ .vmem, ⟨3, _⟩ => ⟨S1x64, .bf16⟩
  | .local _ .vmem, ⟨4, _⟩ => ⟨S64x128, .bf16⟩
  | .local _ .vmem, ⟨5, _⟩ => ⟨S1x128, .bf16⟩
  | .local _ .vmem, ⟨6, _⟩ => ⟨S128x256, .bf16⟩
  | .local _ .vmem, ⟨7, _⟩ => ⟨S1x256, .bf16⟩
  | .local _ .vmem, ⟨8, _⟩ => ⟨S256x512, .bf16⟩
  | .local _ .vmem, ⟨9, _⟩ => ⟨S1x512, .bf16⟩
  | .local _ .vmem, ⟨10, _⟩ => ⟨S22x22, .f32⟩
  | .local _ .vmem, ⟨11, _⟩ => ⟨S64x1408, .bf16⟩
  | .local _ .vmem, ⟨12, _⟩ => ⟨S512x1024, .bf16⟩
  | .local _ .vmem, ⟨13, _⟩ => ⟨S1x1024, .f32⟩
  | .local _ .vmem, ⟨14, _⟩ => ⟨S512x1024, .bf16⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S512x512, .f32⟩
  | .local _ .vmem, ⟨19, _⟩ => ⟨S1x512, .f32⟩
  | .local _ .vmem, ⟨20, _⟩ => ⟨S32x512, .f32⟩
  | .local _ .vmem, ⟨21, _⟩ => ⟨S32x64x1024, .f32⟩
  | .local _ .vmem, ⟨22, _⟩ => ⟨S32x64x1024, .f32⟩
  | _, _ => ⟨S32x64x22x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_cst_1 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst_2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c4_i32 : BitVec 32 := 4#32
  let v131 : BitVec 32 := Scalar.muli arg0 c4_i32
  let v132 : Index := Scalar.indexCast v131
  let c0_61 : Index := 0#32
  let c0_62 : Index := 0#32
  ![v132.toNat, 0, 0]
def k0_cond2 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_5 : BitVec 32 := 0#32
  let c64_i32 : BitVec 32 := 64#32
  let v11 : BitVec 32 := Scalar.addi c0_i32_5 c64_i32
  let c1_i32 : BitVec 32 := 1#32
  ⟨c0_i32_5, v11, c1_i32⟩
def k0_off2 (k0_t1 : Fin k0_t1_loop.trips) : Fin 3 → Nat :=
  let c0_16 : Index := 0#32
  let c0_i32_5 : BitVec 32 := 0#32
  let c1_i32 : BitVec 32 := 1#32
  let arg23 : BitVec 32 := Scf.iv c0_i32_5 c1_i32 k0_t1
  let v26 : Index := Scalar.indexCast arg23
  let c0_17 : Index := 0#32
  ![0, v26.toNat, 0]
def k0_off3 (k0_t1 : Fin k0_t1_loop.trips) : Fin 3 → Nat :=
  let c0_19 : Index := 0#32
  let c63_i32 : BitVec 32 := 63#32
  let c0_i32_5 : BitVec 32 := 0#32
  let c1_i32 : BitVec 32 := 1#32
  let arg23 : BitVec 32 := Scf.iv c0_i32_5 c1_i32 k0_t1
  let v45 : BitVec 32 := Scalar.subi c63_i32 arg23
  let v46 : Index := Scalar.indexCast v45
  let c0_20 : Index := 0#32
  ![0, v46.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5632x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S22x22 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1408 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "inv_22" => some ((1 / 22 : ℝ) : EReal)
  | _ => none
-- ==== ReferenceIdeal.lean ====
abbrev S32x64x22x3 : Shape := ⟨4, ![32, 64, 22, 3]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1024x512 : Shape := ⟨2, ![1024, 512]⟩
abbrev S1024x256 : Shape := ⟨2, ![1024, 256]⟩
abbrev S1024 : Shape := ⟨1, ![1024]⟩
abbrev S512x512 : Shape := ⟨2, ![512, 512]⟩
abbrev S43 : Shape := ⟨1, ![43]⟩
abbrev S45056 : Shape := ⟨1, ![45056]⟩
abbrev S1x43 : Shape := ⟨2, ![1, 43]⟩
abbrev S64x43 : Shape := ⟨2, ![64, 43]⟩
abbrev S2752 : Shape := ⟨1, ![2752]⟩
abbrev S47808 : Shape := ⟨1, ![47808]⟩
abbrev S_ : Shape := ⟨0, ![]⟩
abbrev S47808x1 : Shape := ⟨2, ![47808, 1]⟩
abbrev S2048x22x3 : Shape := ⟨3, ![2048, 22, 3]⟩
abbrev S22x2048x3 : Shape := ⟨3, ![22, 2048, 3]⟩
abbrev S45056x3 : Shape := ⟨2, ![45056, 3]⟩
abbrev S45056x64 : Shape := ⟨2, ![45056, 64]⟩
abbrev S47808x64 : Shape := ⟨2, ![47808, 64]⟩
abbrev S1x64 : Shape := ⟨2, ![1, 64]⟩
abbrev S45056x128 : Shape := ⟨2, ![45056, 128]⟩
abbrev S47808x128 : Shape := ⟨2, ![47808, 128]⟩
abbrev S1x128 : Shape := ⟨2, ![1, 128]⟩
abbrev S45056x256 : Shape := ⟨2, ![45056, 256]⟩
abbrev S47808x256 : Shape := ⟨2, ![47808, 256]⟩
abbrev S1x256 : Shape := ⟨2, ![1, 256]⟩
abbrev S45056x512 : Shape := ⟨2, ![45056, 512]⟩
abbrev S47808x512 : Shape := ⟨2, ![47808, 512]⟩
abbrev S1x512 : Shape := ⟨2, ![1, 512]⟩
abbrev S32x64x22x512 : Shape := ⟨4, ![32, 64, 22, 512]⟩
abbrev S32x64x512 : Shape := ⟨3, ![32, 64, 512]⟩
abbrev S64x32x512 : Shape := ⟨3, ![64, 32, 512]⟩
abbrev S32x256 : Shape := ⟨2, ![32, 256]⟩
abbrev S64x32x256 : Shape := ⟨3, ![64, 32, 256]⟩
abbrev S1x32x512 : Shape := ⟨3, ![1, 32, 512]⟩
abbrev S32x512 : Shape := ⟨2, ![32, 512]⟩
abbrev S512x1024 : Shape := ⟨2, ![512, 1024]⟩
abbrev S32x1024 : Shape := ⟨2, ![32, 1024]⟩
abbrev S256x1024 : Shape := ⟨2, ![256, 1024]⟩
abbrev S1x1024 : Shape := ⟨2, ![1, 1024]⟩
abbrev S1x32x256 : Shape := ⟨3, ![1, 32, 256]⟩
abbrev S32x64x256 : Shape := ⟨3, ![32, 64, 256]⟩

abbrev nBuf : Space → Nat
  | .hbm => 350
  | .vmem => 0
  | .smem => 0
  | _ => 0

abbrev hbmTy0_0 (i : Nat) : BufTy := match i % 128 with
  | 0 => ⟨S32x64x22x3, .f32⟩
  | 1 => ⟨S3x64, .f32⟩
  | 2 => ⟨S64, .f32⟩
  | 3 => ⟨S64x128, .f32⟩
  | 4 => ⟨S128, .f32⟩
  | 5 => ⟨S128x256, .f32⟩
  | 6 => ⟨S256, .f32⟩
  | 7 => ⟨S256x512, .f32⟩
  | 8 => ⟨S512, .f32⟩
  | 9 => ⟨S1024x512, .f32⟩
  | 10 => ⟨S1024x256, .f32⟩
  | 11 => ⟨S1024, .f32⟩
  | 12 => ⟨S1024, .f32⟩
  | 13 => ⟨S1024x512, .f32⟩
  | 14 => ⟨S1024x256, .f32⟩
  | 15 => ⟨S1024, .f32⟩
  | 16 => ⟨S1024, .f32⟩
  | 17 => ⟨S512x512, .f32⟩
  | 18 => ⟨S512, .f32⟩
  | 19 => ⟨S43, .i32⟩
  | 20 => ⟨S43, .i32⟩
  | 21 => ⟨S45056, .i32⟩
  | 22 => ⟨S1x43, .i32⟩
  | 23 => ⟨S64x43, .i32⟩
  | 24 => ⟨S2752, .i32⟩
  | 25 => ⟨S47808, .i32⟩
  | 26 => ⟨S1x43, .i32⟩
  | 27 => ⟨S64x43, .i32⟩
  | 28 => ⟨S2752, .i32⟩
  | 29 => ⟨S47808, .i32⟩
  | 30 => ⟨S_, .f32⟩
  | 31 => ⟨S45056, .f32⟩
  | 32 => ⟨S_, .f32⟩
  | 33 => ⟨S47808, .f32⟩
  | 34 => ⟨S_, .i32⟩
  | 35 => ⟨S47808, .i32⟩
  | 36 => ⟨S47808, .i1⟩
  | 37 => ⟨S_, .i32⟩
  | 38 => ⟨S47808, .i32⟩
  | 39 => ⟨S47808, .i32⟩
  | 40 => ⟨S47808, .i32⟩
  | 41 => ⟨S47808x1, .i32⟩
  | 42 => ⟨S45056, .f32⟩
  | 43 => ⟨S_, .f32⟩
  | 44 => ⟨S45056, .f32⟩
  | 45 => ⟨S45056, .i1⟩
  | 46 => ⟨S_, .f32⟩
  | 47 => ⟨S45056, .f32⟩
  | 48 => ⟨S45056, .f32⟩
  | 49 => ⟨S_, .f32⟩
  | 50 => ⟨S_, .f32⟩
  | 51 => ⟨S45056, .f32⟩
  | 52 => ⟨S45056, .f32⟩
  | 53 => ⟨S_, .i32⟩
  | 54 => ⟨S47808, .i32⟩
  | 55 => ⟨S47808, .i1⟩
  | 56 => ⟨S_, .i32⟩
  | 57 => ⟨S47808, .i32⟩
  | 58 => ⟨S47808, .i32⟩
  | 59 => ⟨S47808, .i32⟩
  | 60 => ⟨S47808x1, .i32⟩
  | 61 => ⟨S47808, .f32⟩
  | 62 => ⟨S_, .i32⟩
  | 63 => ⟨S47808, .i32⟩
  | 64 => ⟨S47808, .i1⟩
  | 65 => ⟨S_, .i32⟩
  | 66 => ⟨S47808, .i32⟩
  | 67 => ⟨S47808, .i32⟩
  | 68 => ⟨S47808, .i32⟩
  | 69 => ⟨S47808x1, .i32⟩
  | 70 => ⟨S47808, .f32⟩
  | 71 => ⟨S47808, .f32⟩
  | 72 => ⟨S2048x22x3, .f32⟩
  | 73 => ⟨S22x2048x3, .f32⟩
  | 74 => ⟨S45056x3, .f32⟩
  | 75 => ⟨S45056x64, .f32⟩
  | 76 => ⟨S_, .f32⟩
  | 77 => ⟨S45056x64, .f32⟩
  | 78 => ⟨S47808x1, .f32⟩
  | 79 => ⟨S_, .i32⟩
  | 80 => ⟨S47808, .i32⟩
  | 81 => ⟨S47808, .i1⟩
  | 82 => ⟨S_, .i32⟩
  | 83 => ⟨S47808, .i32⟩
  | 84 => ⟨S47808, .i32⟩
  | 85 => ⟨S47808, .i32⟩
  | 86 => ⟨S47808x1, .i32⟩
  | 87 => ⟨S47808x64, .f32⟩
  | 88 => ⟨S47808x64, .f32⟩
  | 89 => ⟨S47808x64, .f32⟩
  | 90 => ⟨S_, .i32⟩
  | 91 => ⟨S47808, .i32⟩
  | 92 => ⟨S47808, .i1⟩
  | 93 => ⟨S_, .i32⟩
  | 94 => ⟨S47808, .i32⟩
  | 95 => ⟨S47808, .i32⟩
  | 96 => ⟨S47808, .i32⟩
  | 97 => ⟨S47808x1, .i32⟩
  | 98 => ⟨S45056x64, .f32⟩
  | 99 => ⟨S1x64, .f32⟩
  | 100 => ⟨S45056x64, .f32⟩
  | 101 => ⟨S45056x64, .f32⟩
  | 102 => ⟨S_, .f32⟩
  | 103 => ⟨S45056x64, .f32⟩
  | 104 => ⟨S45056x64, .f32⟩
  | 105 => ⟨S45056x128, .f32⟩
  | 106 => ⟨S_, .f32⟩
  | 107 => ⟨S45056x128, .f32⟩
  | 108 => ⟨S47808x1, .f32⟩
  | 109 => ⟨S_, .i32⟩
  | 110 => ⟨S47808, .i32⟩
  | 111 => ⟨S47808, .i1⟩
  | 112 => ⟨S_, .i32⟩
  | 113 => ⟨S47808, .i32⟩
  | 114 => ⟨S47808, .i32⟩
  | 115 => ⟨S47808, .i32⟩
  | 116 => ⟨S47808x1, .i32⟩
  | 117 => ⟨S47808x128, .f32⟩
  | 118 => ⟨S47808x128, .f32⟩
  | 119 => ⟨S47808x128, .f32⟩
  | 120 => ⟨S_, .i32⟩
  | 121 => ⟨S47808, .i32⟩
  | 122 => ⟨S47808, .i1⟩
  | 123 => ⟨S_, .i32⟩
  | 124 => ⟨S47808, .i32⟩
  | 125 => ⟨S47808, .i32⟩
  | 126 => ⟨S47808, .i32⟩
  | 127 => ⟨S47808x1, .i32⟩
  | _ => ⟨S32x64x22x3, .f32⟩

abbrev hbmTy0_1 (i : Nat) : BufTy := match i % 128 with
  | 0 => ⟨S45056x128, .f32⟩
  | 1 => ⟨S1x128, .f32⟩
  | 2 => ⟨S45056x128, .f32⟩
  | 3 => ⟨S45056x128, .f32⟩
  | 4 => ⟨S_, .f32⟩
  | 5 => ⟨S45056x128, .f32⟩
  | 6 => ⟨S45056x128, .f32⟩
  | 7 => ⟨S45056x256, .f32⟩
  | 8 => ⟨S_, .f32⟩
  | 9 => ⟨S45056x256, .f32⟩
  | 10 => ⟨S47808x1, .f32⟩
  | 11 => ⟨S_, .i32⟩
  | 12 => ⟨S47808, .i32⟩
  | 13 => ⟨S47808, .i1⟩
  | 14 => ⟨S_, .i32⟩
  | 15 => ⟨S47808, .i32⟩
  | 16 => ⟨S47808, .i32⟩
  | 17 => ⟨S47808, .i32⟩
  | 18 => ⟨S47808x1, .i32⟩
  | 19 => ⟨S47808x256, .f32⟩
  | 20 => ⟨S47808x256, .f32⟩
  | 21 => ⟨S47808x256, .f32⟩
  | 22 => ⟨S_, .i32⟩
  | 23 => ⟨S47808, .i32⟩
  | 24 => ⟨S47808, .i1⟩
  | 25 => ⟨S_, .i32⟩
  | 26 => ⟨S47808, .i32⟩
  | 27 => ⟨S47808, .i32⟩
  | 28 => ⟨S47808, .i32⟩
  | 29 => ⟨S47808x1, .i32⟩
  | 30 => ⟨S45056x256, .f32⟩
  | 31 => ⟨S1x256, .f32⟩
  | 32 => ⟨S45056x256, .f32⟩
  | 33 => ⟨S45056x256, .f32⟩
  | 34 => ⟨S_, .f32⟩
  | 35 => ⟨S45056x256, .f32⟩
  | 36 => ⟨S45056x256, .f32⟩
  | 37 => ⟨S45056x512, .f32⟩
  | 38 => ⟨S_, .f32⟩
  | 39 => ⟨S45056x512, .f32⟩
  | 40 => ⟨S47808x1, .f32⟩
  | 41 => ⟨S_, .i32⟩
  | 42 => ⟨S47808, .i32⟩
  | 43 => ⟨S47808, .i1⟩
  | 44 => ⟨S_, .i32⟩
  | 45 => ⟨S47808, .i32⟩
  | 46 => ⟨S47808, .i32⟩
  | 47 => ⟨S47808, .i32⟩
  | 48 => ⟨S47808x1, .i32⟩
  | 49 => ⟨S47808x512, .f32⟩
  | 50 => ⟨S47808x512, .f32⟩
  | 51 => ⟨S47808x512, .f32⟩
  | 52 => ⟨S_, .i32⟩
  | 53 => ⟨S47808, .i32⟩
  | 54 => ⟨S47808, .i1⟩
  | 55 => ⟨S_, .i32⟩
  | 56 => ⟨S47808, .i32⟩
  | 57 => ⟨S47808, .i32⟩
  | 58 => ⟨S47808, .i32⟩
  | 59 => ⟨S47808x1, .i32⟩
  | 60 => ⟨S45056x512, .f32⟩
  | 61 => ⟨S1x512, .f32⟩
  | 62 => ⟨S45056x512, .f32⟩
  | 63 => ⟨S45056x512, .f32⟩
  | 64 => ⟨S_, .f32⟩
  | 65 => ⟨S45056x512, .f32⟩
  | 66 => ⟨S45056x512, .f32⟩
  | 67 => ⟨S32x64x22x512, .f32⟩
  | 68 => ⟨S_, .f32⟩
  | 69 => ⟨S32x64x512, .f32⟩
  | 70 => ⟨S_, .f32⟩
  | 71 => ⟨S32x64x512, .f32⟩
  | 72 => ⟨S32x64x512, .f32⟩
  | 73 => ⟨S64x32x512, .f32⟩
  | 74 => ⟨S_, .f32⟩
  | 75 => ⟨S32x256, .f32⟩
  | 76 => ⟨S64x32x512, .f32⟩
  | 77 => ⟨S_, .f32⟩
  | 78 => ⟨S64x32x256, .f32⟩
  | 79 => ⟨S_, .f32⟩
  | 80 => ⟨S64x32x256, .f32⟩
  | 81 => ⟨S_, .i32⟩
  | 82 => ⟨S64x32x512, .f32⟩
  | 83 => ⟨S64x32x512, .f32⟩
  | 84 => ⟨S1024x512, .f32⟩
  | 85 => ⟨S1024x256, .f32⟩
  | 86 => ⟨S1024, .f32⟩
  | 87 => ⟨S1024, .f32⟩
  | 88 => ⟨S1024x512, .f32⟩
  | 89 => ⟨S1024x256, .f32⟩
  | 90 => ⟨S1024, .f32⟩
  | 91 => ⟨S1024, .f32⟩
  | 92 => ⟨S_, .i32⟩
  | 93 => ⟨S32x256, .f32⟩
  | 94 => ⟨S32x256, .f32⟩
  | 95 => ⟨S32x256, .f32⟩
  | 96 => ⟨S32x256, .f32⟩
  | 97 => ⟨S64x32x256, .f32⟩
  | 98 => ⟨S64x32x256, .f32⟩
  | 99 => ⟨S_, .i32⟩
  | 100 => ⟨S_, .i1⟩
  | 101 => ⟨S_, .i32⟩
  | 102 => ⟨S_, .i32⟩
  | 103 => ⟨S1x32x512, .f32⟩
  | 104 => ⟨S32x512, .f32⟩
  | 105 => ⟨S_, .i32⟩
  | 106 => ⟨S_, .i32⟩
  | 107 => ⟨S1x32x512, .f32⟩
  | 108 => ⟨S32x512, .f32⟩
  | 109 => ⟨S512x1024, .f32⟩
  | 110 => ⟨S32x1024, .f32⟩
  | 111 => ⟨S256x1024, .f32⟩
  | 112 => ⟨S32x1024, .f32⟩
  | 113 => ⟨S32x1024, .f32⟩
  | 114 => ⟨S1x1024, .f32⟩
  | 115 => ⟨S32x1024, .f32⟩
  | 116 => ⟨S32x1024, .f32⟩
  | 117 => ⟨S1x1024, .f32⟩
  | 118 => ⟨S32x1024, .f32⟩
  | 119 => ⟨S32x1024, .f32⟩
  | 120 => ⟨S32x256, .f32⟩
  | 121 => ⟨S32x256, .f32⟩
  | 122 => ⟨S32x256, .f32⟩
  | 123 => ⟨S32x256, .f32⟩
  | 124 => ⟨S32x256, .f32⟩
  | 125 => ⟨S32x256, .f32⟩
  | 126 => ⟨S_, .f32⟩
  | 127 => ⟨S32x256, .f32⟩
  | _ => ⟨S32x64x22x3, .f32⟩

abbrev hbmTy0_2 (i : Nat) : BufTy := match i % 128 with
  | 0 => ⟨S32x256, .f32⟩
  | 1 => ⟨S_, .f32⟩
  | 2 => ⟨S32x256, .f32⟩
  | 3 => ⟨S32x256, .f32⟩
  | 4 => ⟨S32x256, .f32⟩
  | 5 => ⟨S32x256, .f32⟩
  | 6 => ⟨S32x256, .f32⟩
  | 7 => ⟨S_, .f32⟩
  | 8 => ⟨S32x256, .f32⟩
  | 9 => ⟨S32x256, .f32⟩
  | 10 => ⟨S_, .f32⟩
  | 11 => ⟨S32x256, .f32⟩
  | 12 => ⟨S32x256, .f32⟩
  | 13 => ⟨S32x256, .f32⟩
  | 14 => ⟨S32x256, .f32⟩
  | 15 => ⟨S32x256, .f32⟩
  | 16 => ⟨S32x256, .f32⟩
  | 17 => ⟨S32x256, .f32⟩
  | 18 => ⟨S_, .f32⟩
  | 19 => ⟨S32x256, .f32⟩
  | 20 => ⟨S32x256, .f32⟩
  | 21 => ⟨S_, .f32⟩
  | 22 => ⟨S32x256, .f32⟩
  | 23 => ⟨S32x256, .f32⟩
  | 24 => ⟨S32x256, .f32⟩
  | 25 => ⟨S32x256, .f32⟩
  | 26 => ⟨S512x1024, .f32⟩
  | 27 => ⟨S32x1024, .f32⟩
  | 28 => ⟨S256x1024, .f32⟩
  | 29 => ⟨S32x1024, .f32⟩
  | 30 => ⟨S32x1024, .f32⟩
  | 31 => ⟨S1x1024, .f32⟩
  | 32 => ⟨S32x1024, .f32⟩
  | 33 => ⟨S32x1024, .f32⟩
  | 34 => ⟨S1x1024, .f32⟩
  | 35 => ⟨S32x1024, .f32⟩
  | 36 => ⟨S32x1024, .f32⟩
  | 37 => ⟨S32x256, .f32⟩
  | 38 => ⟨S32x256, .f32⟩
  | 39 => ⟨S32x256, .f32⟩
  | 40 => ⟨S32x256, .f32⟩
  | 41 => ⟨S32x256, .f32⟩
  | 42 => ⟨S32x256, .f32⟩
  | 43 => ⟨S_, .f32⟩
  | 44 => ⟨S32x256, .f32⟩
  | 45 => ⟨S32x256, .f32⟩
  | 46 => ⟨S_, .f32⟩
  | 47 => ⟨S32x256, .f32⟩
  | 48 => ⟨S32x256, .f32⟩
  | 49 => ⟨S32x256, .f32⟩
  | 50 => ⟨S32x256, .f32⟩
  | 51 => ⟨S32x256, .f32⟩
  | 52 => ⟨S_, .f32⟩
  | 53 => ⟨S32x256, .f32⟩
  | 54 => ⟨S32x256, .f32⟩
  | 55 => ⟨S_, .f32⟩
  | 56 => ⟨S32x256, .f32⟩
  | 57 => ⟨S32x256, .f32⟩
  | 58 => ⟨S32x256, .f32⟩
  | 59 => ⟨S32x256, .f32⟩
  | 60 => ⟨S32x256, .f32⟩
  | 61 => ⟨S32x256, .f32⟩
  | 62 => ⟨S32x256, .f32⟩
  | 63 => ⟨S_, .f32⟩
  | 64 => ⟨S32x256, .f32⟩
  | 65 => ⟨S32x256, .f32⟩
  | 66 => ⟨S_, .f32⟩
  | 67 => ⟨S32x256, .f32⟩
  | 68 => ⟨S32x256, .f32⟩
  | 69 => ⟨S32x256, .f32⟩
  | 70 => ⟨S32x256, .f32⟩
  | 71 => ⟨S1x32x256, .f32⟩
  | 72 => ⟨S_, .i32⟩
  | 73 => ⟨S_, .i32⟩
  | 74 => ⟨S64x32x256, .f32⟩
  | 75 => ⟨S1x32x256, .f32⟩
  | 76 => ⟨S_, .i32⟩
  | 77 => ⟨S_, .i32⟩
  | 78 => ⟨S64x32x256, .f32⟩
  | 79 => ⟨S_, .i32⟩
  | 80 => ⟨S_, .i32⟩
  | 81 => ⟨S32x64x256, .f32⟩
  | 82 => ⟨S64x32x256, .f32⟩
  | 83 => ⟨S32x64x256, .f32⟩
  | 84 => ⟨S32x64x512, .f32⟩
  | 85 => ⟨S_, .f32⟩
  | 86 => ⟨S32x512, .f32⟩
  | 87 => ⟨S_, .f32⟩
  | 88 => ⟨S32x512, .f32⟩
  | 89 => ⟨S32x512, .f32⟩
  | 90 => ⟨S32x512, .f32⟩
  | 91 => ⟨S1x512, .f32⟩
  | 92 => ⟨S32x512, .f32⟩
  | 93 => ⟨S32x512, .f32⟩
  | _ => ⟨S32x64x22x3, .f32⟩

abbrev hbmTy (i : Nat) : BufTy := match i / 128 with
  | 0 => hbmTy0_0 i
  | 1 => hbmTy0_1 i
  | 2 => hbmTy0_2 i
  | _ => ⟨S32x64x22x3, .f32⟩

abbrev bufTy : (tb : Table) → Fin (tcTables nBuf tb) → BufTy
  | .hbm, ⟨i, _⟩ => hbmTy i
  | _, _ => ⟨S32x64x22x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_4 : Ref sig .tc := ⟨.hbm, 43, rfl⟩
abbrev main_v18 : Ref sig .tc := ⟨.hbm, 44, rfl⟩
abbrev main_v19 : Ref sig .tc := ⟨.hbm, 45, rfl⟩
abbrev main_cst_5 : Ref sig .tc := ⟨.hbm, 46, rfl⟩
abbrev main_v20 : Ref sig .tc := ⟨.hbm, 47, rfl⟩
abbrev main_v21 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_v22 : Ref sig .tc := ⟨.hbm, 52, rfl⟩
abbrev main_c_7 : Ref sig .tc := ⟨.hbm, 53, rfl⟩
abbrev main_v23 : Ref sig .tc := ⟨.hbm, 54, rfl⟩
abbrev main_v24 : Ref sig .tc := ⟨.hbm, 55, rfl⟩
abbrev main_c_8 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_9 : Ref sig .tc := ⟨.hbm, 62, rfl⟩
abbrev main_v30 : Ref sig .tc := ⟨.hbm, 63, rfl⟩
abbrev main_v31 : Ref sig .tc := ⟨.hbm, 64, rfl⟩
abbrev main_c_10 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_11 : Ref sig .tc := ⟨.hbm, 76, rfl⟩
abbrev main_v42 : Ref sig .tc := ⟨.hbm, 77, rfl⟩
abbrev main_v43 : Ref sig .tc := ⟨.hbm, 78, rfl⟩
abbrev main_c_12 : Ref sig .tc := ⟨.hbm, 79, rfl⟩
abbrev main_v44 : Ref sig .tc := ⟨.hbm, 80, rfl⟩
abbrev main_v45 : Ref sig .tc := ⟨.hbm, 81, rfl⟩
abbrev main_c_13 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_14 : Ref sig .tc := ⟨.hbm, 90, rfl⟩
abbrev main_v53 : Ref sig .tc := ⟨.hbm, 91, rfl⟩
abbrev main_v54 : Ref sig .tc := ⟨.hbm, 92, rfl⟩
abbrev main_c_15 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call1_cst : Ref sig .tc := ⟨.hbm, 102, rfl⟩
abbrev main_call1_v0 : Ref sig .tc := ⟨.hbm, 103, rfl⟩
abbrev main_v63 : Ref sig .tc := ⟨.hbm, 104, rfl⟩
abbrev main_v64 : Ref sig .tc := ⟨.hbm, 105, rfl⟩
abbrev main_cst_16 : Ref sig .tc := ⟨.hbm, 106, rfl⟩
abbrev main_v65 : Ref sig .tc := ⟨.hbm, 107, rfl⟩
abbrev main_v66 : Ref sig .tc := ⟨.hbm, 108, rfl⟩
abbrev main_c_17 : Ref sig .tc := ⟨.hbm, 109, rfl⟩
abbrev main_v67 : Ref sig .tc := ⟨.hbm, 110, rfl⟩
abbrev main_v68 : Ref sig .tc := ⟨.hbm, 111, rfl⟩
abbrev main_c_18 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_19 : Ref sig .tc := ⟨.hbm, 120, rfl⟩
abbrev main_v76 : Ref sig .tc := ⟨.hbm, 121, rfl⟩
abbrev main_v77 : Ref sig .tc := ⟨.hbm, 122, rfl⟩
abbrev main_c_20 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_call2_cst : Ref sig .tc := ⟨.hbm, 132, rfl⟩
abbrev main_call2_v0 : Ref sig .tc := ⟨.hbm, 133, rfl⟩
abbrev main_v86 : Ref sig .tc := ⟨.hbm, 134, rfl⟩
abbrev main_v87 : Ref sig .tc := ⟨.hbm, 135, rfl⟩
abbrev main_cst_21 : Ref sig .tc := ⟨.hbm, 136, rfl⟩
abbrev main_v88 : Ref sig .tc := ⟨.hbm, 137, rfl⟩
abbrev main_v89 : Ref sig .tc := ⟨.hbm, 138, rfl⟩
abbrev main_c_22 : Ref sig .tc := ⟨.hbm, 139, rfl⟩
abbrev main_v90 : Ref sig .tc := ⟨.hbm, 140, rfl⟩
abbrev main_v91 : Ref sig .tc := ⟨.hbm, 141, rfl⟩
abbrev main_c_23 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_24 : Ref sig .tc := ⟨.hbm, 150, rfl⟩
abbrev main_v99 : Ref sig .tc := ⟨.hbm, 151, rfl⟩
abbrev main_v100 : Ref sig .tc := ⟨.hbm, 152, rfl⟩
abbrev main_c_25 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_call3_cst : Ref sig .tc := ⟨.hbm, 162, rfl⟩
abbrev main_call3_v0 : Ref sig .tc := ⟨.hbm, 163, rfl⟩
abbrev main_v109 : Ref sig .tc := ⟨.hbm, 164, rfl⟩
abbrev main_v110 : Ref sig .tc := ⟨.hbm, 165, rfl⟩
abbrev main_cst_26 : Ref sig .tc := ⟨.hbm, 166, rfl⟩
abbrev main_v111 : Ref sig .tc := ⟨.hbm, 167, rfl⟩
abbrev main_v112 : Ref sig .tc := ⟨.hbm, 168, rfl⟩
abbrev main_c_27 : Ref sig .tc := ⟨.hbm, 169, rfl⟩
abbrev main_v113 : Ref sig .tc := ⟨.hbm, 170, rfl⟩
abbrev main_v114 : Ref sig .tc := ⟨.hbm, 171, rfl⟩
abbrev main_c_28 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_c_29 : Ref sig .tc := ⟨.hbm, 180, rfl⟩
abbrev main_v122 : Ref sig .tc := ⟨.hbm, 181, rfl⟩
abbrev main_v123 : Ref sig .tc := ⟨.hbm, 182, rfl⟩
abbrev main_c_30 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_call4_cst : Ref sig .tc := ⟨.hbm, 192, rfl⟩
abbrev main_call4_v0 : Ref sig .tc := ⟨.hbm, 193, rfl⟩
abbrev main_v132 : Ref sig .tc := ⟨.hbm, 194, rfl⟩
abbrev main_v133 : Ref sig .tc := ⟨.hbm, 195, rfl⟩
abbrev main_cst_31 : Ref sig .tc := ⟨.hbm, 196, rfl⟩
abbrev main_v134 : Ref sig .tc := ⟨.hbm, 197, rfl⟩
abbrev main_cst_32 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_cst_33 : Ref sig .tc := ⟨.hbm, 202, rfl⟩
abbrev main_v138 : Ref sig .tc := ⟨.hbm, 203, rfl⟩
abbrev main_v139 : Ref sig .tc := ⟨.hbm, 204, rfl⟩
abbrev main_cst_34 : Ref sig .tc := ⟨.hbm, 205, rfl⟩
abbrev main_v140 : Ref sig .tc := ⟨.hbm, 206, rfl⟩
abbrev main_cst_35 : Ref sig .tc := ⟨.hbm, 207, rfl⟩
abbrev main_v141 : Ref sig .tc := ⟨.hbm, 208, rfl⟩
abbrev main_c_36 : Ref sig .tc := ⟨.hbm, 209, rfl⟩
abbrev main_v142_0 : Ref sig .tc := ⟨.hbm, 210, rfl⟩
abbrev main_v142_1 : Ref sig .tc := ⟨.hbm, 211, rfl⟩
abbrev main_v142_2 : Ref sig .tc := ⟨.hbm, 212, rfl⟩
abbrev main_v142_3 : Ref sig .tc := ⟨.hbm, 213, rfl⟩
abbrev main_v142_4 : Ref sig .tc := ⟨.hbm, 214, rfl⟩
abbrev main_v142_5 : Ref sig .tc := ⟨.hbm, 215, rfl⟩
abbrev main_v142_6 : Ref sig .tc := ⟨.hbm, 216, rfl⟩
abbrev main_v142_7 : Ref sig .tc := ⟨.hbm, 217, rfl⟩
abbrev main_v142_8 : Ref sig .tc := ⟨.hbm, 218, rfl⟩
abbrev main_v142_9 : Ref sig .tc := ⟨.hbm, 219, rfl⟩
abbrev main_v142_10 : Ref sig .tc := ⟨.hbm, 220, rfl⟩
abbrev main_v142_11 : Ref sig .tc := ⟨.hbm, 221, rfl⟩
abbrev main_v142_12 : Ref sig .tc := ⟨.hbm, 222, rfl⟩
abbrev main_v142_13 : Ref sig .tc := ⟨.hbm, 223, rfl⟩
abbrev main_v142_14 : Ref sig .tc := ⟨.hbm, 224, rfl⟩
abbrev main_v142_15 : Ref sig .tc := ⟨.hbm, 225, rfl⟩
abbrev main_v142_16 : Ref sig .tc := ⟨.hbm, 226, rfl⟩
abbrev main_while0c_c_55 : Ref sig .tc := ⟨.hbm, 227, rfl⟩
abbrev main_while0c_v154 : Ref sig .tc := ⟨.hbm, 228, rfl⟩
abbrev main_while0b_call5_c : Ref sig .tc := ⟨.hbm, 229, rfl⟩
abbrev main_while0b_call5_c_0 : Ref sig .tc := ⟨.hbm, 230, rfl⟩
abbrev main_while0b_call5_v0 : Ref sig .tc := ⟨.hbm, 231, rfl⟩
abbrev main_while0b_v154 : Ref sig .tc := ⟨.hbm, 232, rfl⟩
abbrev main_while0b_call6_c : Ref sig .tc := ⟨.hbm, 233, rfl⟩
abbrev main_while0b_call6_c_0 : Ref sig .tc := ⟨.hbm, 234, rfl⟩
abbrev main_while0b_call6_v0 : Ref sig .tc := ⟨.hbm, 235, rfl⟩
abbrev main_while0b_v155 : Ref sig .tc := ⟨.hbm, 236, rfl⟩
abbrev main_while0b_v156 : Ref sig .tc := ⟨.hbm, 237, rfl⟩
abbrev main_while0b_v157 : Ref sig .tc := ⟨.hbm, 238, rfl⟩
abbrev main_while0b_v158 : Ref sig .tc := ⟨.hbm, 239, rfl⟩
abbrev main_while0b_v159 : Ref sig .tc := ⟨.hbm, 240, rfl⟩
abbrev main_while0b_v160 : Ref sig .tc := ⟨.hbm, 241, rfl⟩
abbrev main_while0b_v161 : Ref sig .tc := ⟨.hbm, 242, rfl⟩
abbrev main_while0b_v162 : Ref sig .tc := ⟨.hbm, 243, rfl⟩
abbrev main_while0b_v163 : Ref sig .tc := ⟨.hbm, 244, rfl⟩
abbrev main_while0b_v164 : Ref sig .tc := ⟨.hbm, 245, rfl⟩
abbrev main_while0b_v165 : Ref sig .tc := ⟨.hbm, 246, rfl⟩
abbrev main_while0b_v166 : Ref sig .tc := ⟨.hbm, 247, rfl⟩
abbrev main_while0b_v167 : Ref sig .tc := ⟨.hbm, 248, rfl⟩
abbrev main_while0b_v168 : Ref sig .tc := ⟨.hbm, 249, rfl⟩
abbrev main_while0b_v169 : Ref sig .tc := ⟨.hbm, 250, rfl⟩
abbrev main_while0b_v170 : Ref sig .tc := ⟨.hbm, 251, rfl⟩
abbrev main_while0b_v171 : Ref sig .tc := ⟨.hbm, 252, rfl⟩
abbrev main_while0b_v172 : Ref sig .tc := ⟨.hbm, 253, rfl⟩
abbrev main_while0b_cst_55 : Ref sig .tc := ⟨.hbm, 254, rfl⟩
abbrev main_while0b_v173 : Ref sig .tc := ⟨.hbm, 255, rfl⟩
abbrev main_while0b_v174 : Ref sig .tc := ⟨.hbm, 256, rfl⟩
abbrev main_while0b_cst_56 : Ref sig .tc := ⟨.hbm, 257, rfl⟩
abbrev main_while0b_v175 : Ref sig .tc := ⟨.hbm, 258, rfl⟩
abbrev main_while0b_v176 : Ref sig .tc := ⟨.hbm, 259, rfl⟩
abbrev main_while0b_v177 : Ref sig .tc := ⟨.hbm, 260, rfl⟩
abbrev main_while0b_v178 : Ref sig .tc := ⟨.hbm, 261, rfl⟩
abbrev main_while0b_v179 : Ref sig .tc := ⟨.hbm, 262, rfl⟩
abbrev main_while0b_cst_57 : Ref sig .tc := ⟨.hbm, 263, rfl⟩
abbrev main_while0b_v180 : Ref sig .tc := ⟨.hbm, 264, rfl⟩
abbrev main_while0b_v181 : Ref sig .tc := ⟨.hbm, 265, rfl⟩
abbrev main_while0b_cst_58 : Ref sig .tc := ⟨.hbm, 266, rfl⟩
abbrev main_while0b_v182 : Ref sig .tc := ⟨.hbm, 267, rfl⟩
abbrev main_while0b_v183 : Ref sig .tc := ⟨.hbm, 268, rfl⟩
abbrev main_while0b_v184 : Ref sig .tc := ⟨.hbm, 269, rfl⟩
abbrev main_while0b_v185 : Ref sig .tc := ⟨.hbm, 270, rfl⟩
abbrev main_while0b_v186 : Ref sig .tc := ⟨.hbm, 271, rfl⟩
abbrev main_while0b_v187 : Ref sig .tc := ⟨.hbm, 272, rfl⟩
abbrev main_while0b_v188 : Ref sig .tc := ⟨.hbm, 273, rfl⟩
abbrev main_while0b_cst_59 : Ref sig .tc := ⟨.hbm, 274, rfl⟩
abbrev main_while0b_v189 : Ref sig .tc := ⟨.hbm, 275, rfl⟩
abbrev main_while0b_v190 : Ref sig .tc := ⟨.hbm, 276, rfl⟩
abbrev main_while0b_cst_60 : Ref sig .tc := ⟨.hbm, 277, rfl⟩
abbrev main_while0b_v191 : Ref sig .tc := ⟨.hbm, 278, rfl⟩
abbrev main_while0b_v192 : Ref sig .tc := ⟨.hbm, 279, rfl⟩
abbrev main_while0b_v193 : Ref sig .tc := ⟨.hbm, 280, rfl⟩
abbrev main_while0b_v194 : Ref sig .tc := ⟨.hbm, 281, rfl⟩
abbrev main_while0b_v195 : Ref sig .tc := ⟨.hbm, 282, rfl⟩
abbrev main_while0b_v196 : Ref sig .tc := ⟨.hbm, 283, rfl⟩
abbrev main_while0b_v197 : Ref sig .tc := ⟨.hbm, 284, rfl⟩
abbrev main_while0b_v198 : Ref sig .tc := ⟨.hbm, 285, rfl⟩
abbrev main_while0b_v199 : Ref sig .tc := ⟨.hbm, 286, rfl⟩
abbrev main_while0b_v200 : Ref sig .tc := ⟨.hbm, 287, rfl⟩
abbrev main_while0b_v201 : Ref sig .tc := ⟨.hbm, 288, rfl⟩
abbrev main_while0b_v202 : Ref sig .tc := ⟨.hbm, 289, rfl⟩
abbrev main_while0b_v203 : Ref sig .tc := ⟨.hbm, 290, rfl⟩
abbrev main_while0b_v204 : Ref sig .tc := ⟨.hbm, 291, rfl⟩
abbrev main_while0b_v205 : Ref sig .tc := ⟨.hbm, 292, rfl⟩
abbrev main_while0b_v206 : Ref sig .tc := ⟨.hbm, 293, rfl⟩
abbrev main_while0b_v207 : Ref sig .tc := ⟨.hbm, 294, rfl⟩
abbrev main_while0b_v208 : Ref sig .tc := ⟨.hbm, 295, rfl⟩
abbrev main_while0b_v209 : Ref sig .tc := ⟨.hbm, 296, rfl⟩
abbrev main_while0b_v210 : Ref sig .tc := ⟨.hbm, 297, rfl⟩
abbrev main_while0b_v211 : Ref sig .tc := ⟨.hbm, 298, rfl⟩
abbrev main_while0b_cst_61 : Ref sig .tc := ⟨.hbm, 299, rfl⟩
abbrev main_while0b_v212 : Ref sig .tc := ⟨.hbm, 300, rfl⟩
abbrev main_while0b_v213 : Ref sig .tc := ⟨.hbm, 301, rfl⟩
abbrev main_while0b_cst_62 : Ref sig .tc := ⟨.hbm, 302, rfl⟩
abbrev main_while0b_v214 : Ref sig .tc := ⟨.hbm, 303, rfl⟩
abbrev main_while0b_v215 : Ref sig .tc := ⟨.hbm, 304, rfl⟩
abbrev main_while0b_v216 : Ref sig .tc := ⟨.hbm, 305, rfl⟩
abbrev main_while0b_v217 : Ref sig .tc := ⟨.hbm, 306, rfl⟩
abbrev main_while0b_v218 : Ref sig .tc := ⟨.hbm, 307, rfl⟩
abbrev main_while0b_cst_63 : Ref sig .tc := ⟨.hbm, 308, rfl⟩
abbrev main_while0b_v219 : Ref sig .tc := ⟨.hbm, 309, rfl⟩
abbrev main_while0b_v220 : Ref sig .tc := ⟨.hbm, 310, rfl⟩
abbrev main_while0b_cst_64 : Ref sig .tc := ⟨.hbm, 311, rfl⟩
abbrev main_while0b_v221 : Ref sig .tc := ⟨.hbm, 312, rfl⟩
abbrev main_while0b_v222 : Ref sig .tc := ⟨.hbm, 313, rfl⟩
abbrev main_while0b_v223 : Ref sig .tc := ⟨.hbm, 314, rfl⟩
abbrev main_while0b_v224 : Ref sig .tc := ⟨.hbm, 315, rfl⟩
abbrev main_while0b_v225 : Ref sig .tc := ⟨.hbm, 316, rfl⟩
abbrev main_while0b_v226 : Ref sig .tc := ⟨.hbm, 317, rfl⟩
abbrev main_while0b_v227 : Ref sig .tc := ⟨.hbm, 318, rfl⟩
abbrev main_while0b_cst_65 : Ref sig .tc := ⟨.hbm, 319, rfl⟩
abbrev main_while0b_v228 : Ref sig .tc := ⟨.hbm, 320, rfl⟩
abbrev main_while0b_v229 : Ref sig .tc := ⟨.hbm, 321, rfl⟩
abbrev main_while0b_cst_66 : Ref sig .tc := ⟨.hbm, 322, rfl⟩
abbrev main_while0b_v230 : Ref sig .tc := ⟨.hbm, 323, rfl⟩
abbrev main_while0b_v231 : Ref sig .tc := ⟨.hbm, 324, rfl⟩
abbrev main_while0b_v232 : Ref sig .tc := ⟨.hbm, 325, rfl⟩
abbrev main_while0b_v233 : Ref sig .tc := ⟨.hbm, 326, rfl⟩
abbrev main_while0b_call7_v0 : Ref sig .tc := ⟨.hbm, 327, rfl⟩
abbrev main_while0b_call7_c : Ref sig .tc := ⟨.hbm, 328, rfl⟩
abbrev main_while0b_call7_c_0 : Ref sig .tc := ⟨.hbm, 329, rfl⟩
abbrev main_while0b_v234 : Ref sig .tc := ⟨.hbm, 330, rfl⟩
abbrev main_while0b_call8_v0 : Ref sig .tc := ⟨.hbm, 331, rfl⟩
abbrev main_while0b_call8_c : Ref sig .tc := ⟨.hbm, 332, rfl⟩
abbrev main_while0b_call8_c_0 : Ref sig .tc := ⟨.hbm, 333, rfl⟩
abbrev main_while0b_v235 : Ref sig .tc := ⟨.hbm, 334, rfl⟩
abbrev main_while0b_c_67 : Ref sig .tc := ⟨.hbm, 335, rfl⟩
abbrev main_while0b_v236 : Ref sig .tc := ⟨.hbm, 336, rfl⟩
abbrev main_v143 : Ref sig .tc := ⟨.hbm, 337, rfl⟩
abbrev main_v144 : Ref sig .tc := ⟨.hbm, 338, rfl⟩
abbrev main_v145 : Ref sig .tc := ⟨.hbm, 339, rfl⟩
abbrev main_v146 : Ref sig .tc := ⟨.hbm, 340, rfl⟩
abbrev main_cst_37 : Ref sig .tc := ⟨.hbm, 341, rfl⟩
abbrev main_v147 : Ref sig .tc := ⟨.hbm, 342, rfl⟩
abbrev main_cst_38 : Ref sig .tc := ⟨.hbm, 343, rfl⟩
abbrev main_v148 : Ref sig .tc := ⟨.hbm, 344, rfl⟩
abbrev main_v149 : Ref sig .tc := ⟨.hbm, 345, rfl⟩
abbrev main_v150 : Ref sig .tc := ⟨.hbm, 346, rfl⟩
abbrev main_v151 : Ref sig .tc := ⟨.hbm, 347, rfl⟩
abbrev main_v152 : Ref sig .tc := ⟨.hbm, 348, rfl⟩
abbrev main_v153 : Ref sig .tc := ⟨.hbm, 349, rfl⟩

abbrev nD : Nat := 1
abbrev τ : Topo := Topo.v7x

variable {F : FTy → Type} [FloatOps F]

abbrev main_while0_count : Scf.Loop 32 := ⟨0#32, 64#32, 1#32⟩
-- ==== Proof.KernelFrame.lean ====
/- The printed kernel runs to the end, its arguments unchanged and its semaphore counters at zero. Nothing here says what it
   computes: the output window and the two scratch buffers are held at any contents from point to point. -/
module

public import proofs.«01_k».proof.Proof.Gen.Kernel.Frame
public import proofs.«01_k».proof.Proof.Gen.Kernel.Loops
public import Idealize.ShloMosaic.Lib.Claim

@[expose] public section

set_option maxRecDepth 16384
set_option maxHeartbeats 800000

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point below 8. -/
theorem runA (c : Dev nD) (E : Set ℕ) (i : grid0.Coords) (h1 : k0_cond1 i = 1#1) (h2 : ¬ k0_cond2 i = 1#1)
    (arg1 : Memref sig .tc .vmem S5632x3 .f32) (harg1 : arg1.IsWhole)
    (arg2 : Memref sig .tc .vmem S3x64 .bf16) (harg2 : arg2.IsWhole)
    (arg3 : Memref sig .tc .vmem S1x64 .bf16) (harg3 : arg3.IsWhole)
    (arg4 : Memref sig .tc .vmem S64x128 .bf16) (harg4 : arg4.IsWhole)
    (arg5 : Memref sig .tc .vmem S1x128 .bf16) (harg5 : arg5.IsWhole)
    (arg6 : Memref sig .tc .vmem S128x256 .bf16) (harg6 : arg6.IsWhole)
    (arg7 : Memref sig .tc .vmem S1x256 .bf16) (harg7 : arg7.IsWhole)
    (arg8 : Memref sig .tc .vmem S256x512 .bf16) (harg8 : arg8.IsWhole)
    (arg9 : Memref sig .tc .vmem S1x512 .bf16) (harg9 : arg9.IsWhole)
    (arg10 : Memref sig .tc .vmem S22x22 .f32) (harg10 : arg10.IsWhole)
    (arg11 : Memref sig .tc .vmem S64x1408 .bf16) (harg11 : arg11.IsWhole)
    (arg12 : Memref sig .tc .vmem S512x1024 .bf16) (harg12 : arg12.IsWhole)
    (arg13 : Memref sig .tc .vmem S1x1024 .f32) (harg13 : arg13.IsWhole)
    (arg14 : Memref sig .tc .vmem S512x1024 .bf16) (harg14 : arg14.IsWhole)
    (arg15 : Memref sig .tc .vmem S1x1024 .f32) (harg15 : arg15.IsWhole)
    (arg16 : Memref sig .tc .vmem S256x1024 .bf16) (harg16 : arg16.IsWhole)
    (arg17 : Memref sig .tc .vmem S256x1024 .bf16) (harg17 : arg17.IsWhole)
    (arg18 : Memref sig .tc .vmem S512x512 .f32) (harg18 : arg18.IsWhole)
    (arg19 : Memref sig .tc .vmem S1x512 .f32) (harg19 : arg19.IsWhole)
    (arg20 : Memref sig .tc .vmem S32x512 .f32) (harg20 : arg20.IsWhole)
    (arg21 : Memref sig .tc .vmem S32x64x1024 .f32) (harg21 : arg21.IsWhole)
    (arg22 : Memref sig .tc .vmem S32x64x1024 .f32) (harg22 : arg22.IsWhole)
    (x1 : Vec F S5632x3 .f32) (x2 : Vec F S3x64 .bf16) (x3 : Vec F S1x64 .bf16) (x4 : Vec F S64x128 .bf16) (x5 : Vec F S1x128 .bf16) (x6 : Vec F S128x256 .bf16) (x7 : Vec F S1x256 .bf16) (x8 : Vec F S256x512 .bf16) (x9 : Vec F S1x512 .bf16) (x10 : Vec F S22x22 .f32) (x11 : Vec F S64x1408 .bf16) (x12 : Vec F S512x1024 .bf16) (x13 : Vec F S1x1024 .f32) (x14 : Vec F S512x1024 .bf16) (x15 : Vec F S1x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg21 fullShare d) ∗ (∃ d, owns (c : Thread nD τ) arg22 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg21 fullShare d) ∗ (∃ d, owns (c : Thread nD τ) arg22 fullShare d)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_body_eq_skeleton]; unfold cc0__fused_body_skel
  rw [dif_pos h1, dif_neg h2]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d21, %f21, -, H21⟩, ⟨%d22, %f22, -, H22⟩, Hk⟩
  subst hf1 hf2 hf3 hf4 hf5 hf6 hf7 hf8 hf9 hf10 hf11 hf12 hf13 hf14 hf15
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H21]
  · iexists _, _; isplitr; swap; · iexact H21
    ipureintro; rfl
  · iexists _, _; isplitr; swap; · iexact H22
    ipureintro; rfl

/-- The last point. -/
theorem runB (c : Dev nD) (E : Set ℕ) (i : grid0.Coords) (h1 : ¬ k0_cond1 i = 1#1) (h2 : k0_cond2 i = 1#1)
    (arg1 : Memref sig .tc .vmem S5632x3 .f32) (harg1 : arg1.IsWhole)
    (arg2 : Memref sig .tc .vmem S3x64 .bf16) (harg2 : arg2.IsWhole)
    (arg3 : Memref sig .tc .vmem S1x64 .bf16) (harg3 : arg3.IsWhole)
    (arg4 : Memref sig .tc .vmem S64x128 .bf16) (harg4 : arg4.IsWhole)
    (arg5 : Memref sig .tc .vmem S1x128 .bf16) (harg5 : arg5.IsWhole)
    (arg6 : Memref sig .tc .vmem S128x256 .bf16) (harg6 : arg6.IsWhole)
    (arg7 : Memref sig .tc .vmem S1x256 .bf16) (harg7 : arg7.IsWhole)
    (arg8 : Memref sig .tc .vmem S256x512 .bf16) (harg8 : arg8.IsWhole)
    (arg9 : Memref sig .tc .vmem S1x512 .bf16) (harg9 : arg9.IsWhole)
    (arg10 : Memref sig .tc .vmem S22x22 .f32) (harg10 : arg10.IsWhole)
    (arg11 : Memref sig .tc .vmem S64x1408 .bf16) (harg11 : arg11.IsWhole)
    (arg12 : Memref sig .tc .vmem S512x1024 .bf16) (harg12 : arg12.IsWhole)
    (arg13 : Memref sig .tc .vmem S1x1024 .f32) (harg13 : arg13.IsWhole)
    (arg14 : Memref sig .tc .vmem S512x1024 .bf16) (harg14 : arg14.IsWhole)
    (arg15 : Memref sig .tc .vmem S1x1024 .f32) (harg15 : arg15.IsWhole)
    (arg16 : Memref sig .tc .vmem S256x1024 .bf16) (harg16 : arg16.IsWhole)
    (arg17 : Memref sig .tc .vmem S256x1024 .bf16) (harg17 : arg17.IsWhole)
    (arg18 : Memref sig .tc .vmem S512x512 .f32) (harg18 : arg18.IsWhole)
    (arg19 : Memref sig .tc .vmem S1x512 .f32) (harg19 : arg19.IsWhole)
    (arg20 : Memref sig .tc .vmem S32x512 .f32) (harg20 : arg20.IsWhole)
    (arg21 : Memref sig .tc .vmem S32x64x1024 .f32) (harg21 : arg21.IsWhole)
    (arg22 : Memref sig .tc .vmem S32x64x1024 .f32) (harg22 : arg22.IsWhole)
    (x16 : Vec F S256x1024 .bf16) (x17 : Vec F S256x1024 .bf16) (x18 : Vec F S512x512 .f32) (x19 : Vec F S1x512 .f32) (K : PUnit → sProp 𝕄) :
    iprop(owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_body_eq_skeleton]; unfold cc0__fused_body_skel
  rw [dif_neg h1, dif_pos h2]
  unfold owns
  iintro ⟨⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
  subst hf16 hf17 hf18 hf19
  sl_exec
  sl_step
  iapply Hk
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _, _; isplitr; swap; · iexact H20
    ipureintro; rfl
  isplitl [H21]
  · iexists _, _; isplitr; swap; · iexact H21
    ipureintro; rfl
  · iexists _, _; isplitr; swap; · iexact H22
    ipureintro; rfl

variable (m : (ℓ : Loc nD τ sig) → Buf (Elt F) ℓ) (ρ : Dev nD → PrngReg)

theorem cond1_lo : ∀ t : Fin cfg0.N, t.val < 8 → k0_cond1 (grid0.coords t) = 1#1 ∧ ¬ k0_cond2 (grid0.coords t) = 1#1 := by decide +kernel
theorem cond2_hi : ∀ t : Fin cfg0.N, ¬ t.val < 8 → ¬ k0_cond1 (grid0.coords t) = 1#1 ∧ k0_cond2 (grid0.coords t) = 1#1 := by decide +kernel

/-- The output window is held at any contents. -/
def forgets0 : Fin 20 → Bool := fun w => w.val == 19

/-- The proof data on core `c`: each input's buffer left at its block, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨k + 19, h⟩ => Pipeline.Dat.unnamed (cfg := cfg0) ⟨k + 19, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare d))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ (∃ d, owns (c : Thread nD τ) (st0_19 t) fullShare d))

/-- The body at a point below 8. -/
theorem sound_lo (c : Dev nD) (t : Fin cfg0.N) (ht : t.val < 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  unfold Pipeline.ΦA
  rw [scopedRest0_eq c]
  simp only [← owns_whole]
  iintro ⟨⟨⟨S0, S1⟩, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20⟩
  iapply (runA c Set.univ (grid0.coords t) (cond1_lo t ht).1 (cond1_lo t ht).2 _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  iintro ⟨H1, H2, H3, H4, H5, H6, H7, H8, H9, H10, H11, H12, H13, H14, H15, S0, S1⟩
  isplitl [S0 S1 HR]
  · isplitl [S0 S1]
    · isplitl [S0]; · iexact S0
      iexact S1
    iexact HR
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body at the last point. -/
theorem sound_hi (c : Dev nD) (t : Fin cfg0.N) (ht : ¬ t.val < 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  unfold Pipeline.ΦA
  rw [scopedRest0_eq c]
  simp only [← owns_whole]
  iintro ⟨⟨⟨S0, S1⟩, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20⟩
  iapply (runB c Set.univ (grid0.coords t) (cond2_hi t ht).1 (cond2_hi t ht).2 _ _ _ _ _ _ _ _ _ _ _ _ _ _ _ _ _ _ _ _ _ _ _ _ _ _ _ _ _ _ _ _ _ _ _ _ _ _ _ _ _ _ _ _ (iblk m c 15 t) (iblk m c 16 t) (iblk m c 17 t) (iblk m c 18 t) _)
  isplitl [H16]; · iexact H16
  isplitl [H17]; · iexact H17
  isplitl [H18]; · iexact H18
  isplitl [H19]; · iexact H19
  isplitl [H20]; · iexact H20
  isplitl [S0]; · iexact S0
  isplitl [S1]; · iexact S1
  iintro ⟨H16, H17, H18, H19, H20, S0, S1⟩
  isplitl [S0 S1 HR]
  · isplitl [S0 S1]
    · isplitl [S0]; · iexact S0
      iexact S1
    iexact HR
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem sound_body (c : Dev nD) (t : Fin cfg0.N) :
    bodyPre m c t ⊢ wp frame (wpE (defs₀ (F := F)) Variants.none c none) Set.univ (bodyAt0 t) (fun _ => bodyPost m c t) := by
  by_cases ht : t.val < 8
  · exact sound_lo m c t ht
  · exact sound_hi m c t ht

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this one, which takes unfolding plain
-- definitions in a type
set_option backward.isDefEq.respectTransparency.types false in
/-- Every run ends with each input array and each buffer no window moves as the region found it, and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A buffer no window moves ends as the region found it. -/
theorem final_rest {r : PUnit × MemSt nD τ sig (Elt F)}
    (h : Pipeline.RDat.FramePost (cfgs 0) (fun c => (dats (F := F) m 0 c).toRForget forgets0) (V m) r) (c : Dev nD) (b : Ref sig .tc)
    (hb : b ∈ Pipeline.restRefs sig (cfgs 0).spec) : r.2.mem ((c : Thread nD τ).loc b) = V m c b :=
  (h c).2 b hb

/-- Input window 17 stages an argument itself; its array ends as the region found it. -/
theorem final_17 {r : PUnit × MemSt nD τ sig (Elt F)}
    (h : Pipeline.RDat.FramePost (cfgs 0) (fun c => (dats (F := F) m 0 c).toRForget forgets0) (V m) r) (c : Dev nD) :
    r.2.mem ((c : Thread nD τ).loc main_arg17) = V m c main_arg17 := by
  have h17 := (h c).1 17
  exact ((Pipeline.Dat.toRForget_arrAt_iff (dat := dats (F := F) m 0 c) (fgt := forgets0) (w := 17) (by decide) _ _).mp h17).trans
    (((dats (F := F) m 0 c).arrAt_in 17 rfl _).trans (A_eq m c 17))

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => ⟨(final_rest m h.1 c main_arg0 (Pipeline.mem_restRefs_of main_arg0 (by decide) (by decide))).trans (V_main_arg0 m c),
      (final_rest m h.1 c main_arg1 (Pipeline.mem_restRefs_of main_arg1 (by decide) (by decide))).trans (V_main_arg1 m c),
      (final_rest m h.1 c main_arg2 (Pipeline.mem_restRefs_of main_arg2 (by decide) (by decide))).trans (V_main_arg2 m c),
      (final_rest m h.1 c main_arg3 (Pipeline.mem_restRefs_of main_arg3 (by decide) (by decide))).trans (V_main_arg3 m c),
      (final_rest m h.1 c main_arg4 (Pipeline.mem_restRefs_of main_arg4 (by decide) (by decide))).trans (V_main_arg4 m c),
      (final_rest m h.1 c main_arg5 (Pipeline.mem_restRefs_of main_arg5 (by decide) (by decide))).trans (V_main_arg5 m c),
      (final_rest m h.1 c main_arg6 (Pipeline.mem_restRefs_of main_arg6 (by decide) (by decide))).trans (V_main_arg6 m c),
      (final_rest m h.1 c main_arg7 (Pipeline.mem_restRefs_of main_arg7 (by decide) (by decide))).trans (V_main_arg7 m c),
      (final_rest m h.1 c main_arg8 (Pipeline.mem_restRefs_of main_arg8 (by decide) (by decide))).trans (V_main_arg8 m c),
      (final_rest m h.1 c main_arg9 (Pipeline.mem_restRefs_of main_arg9 (by decide) (by decide))).trans (V_main_arg9 m c),
      (final_rest m h.1 c main_arg10 (Pipeline.mem_restRefs_of main_arg10 (by decide) (by decide))).trans (V_main_arg10 m c),
      (final_rest m h.1 c main_arg11 (Pipeline.mem_restRefs_of main_arg11 (by decide) (by decide))).trans (V_main_arg11 m c),
      (final_rest m h.1 c main_arg12 (Pipeline.mem_restRefs_of main_arg12 (by decide) (by decide))).trans (V_main_arg12 m c),
      (final_rest m h.1 c main_arg13 (Pipeline.mem_restRefs_of main_arg13 (by decide) (by decide))).trans (V_main_arg13 m c),
      (final_rest m h.1 c main_arg14 (Pipeline.mem_restRefs_of main_arg14 (by decide) (by decide))).trans (V_main_arg14 m c),
      (final_rest m h.1 c main_arg15 (Pipeline.mem_restRefs_of main_arg15 (by decide) (by decide))).trans (V_main_arg15 m c),
      (final_rest m h.1 c main_arg16 (Pipeline.mem_restRefs_of main_arg16 (by decide) (by decide))).trans (V_main_arg16 m c),
      (final_17 m h.1 c).trans (V_main_arg17 m c),
      (final_rest m h.1 c main_arg18 (Pipeline.mem_restRefs_of main_arg18 (by decide) (by decide))).trans (V_main_arg18 m c)⟩, h.2⟩) (run_main m ρ)

end Cert.Proof.KernelFrame

end
-- ==== Proof.Body.lean ====
/- The kernel's body, run by hand: at a point below 8 it stores four batch rows of the two gate tables into the two scratch
   buffers; at point 8 it runs the 64 steps of the two recurrent chains over the tables and stores the output block. Each
   case is one theorem over symbolic memrefs, its stores stated as plain functions of the input blocks. -/
module

public import proofs.«01_k».proof.Proof.Gen.KernelIdeal.Frame
public import proofs.«01_k».proof.Proof.Gen.KernelIdeal.Loops
public import Idealize.ShloMosaic.Lib.Claim
public import Idealize.ShloMosaic.Lib.VecWindow
public import Idealize.ShloMosaic.Lib.ValueIdx

@[expose] public section

set_option maxRecDepth 16384
set_option maxHeartbeats 800000

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body stores, as functions of the blocks it loads -/

/-- The 256 group features the block leaves the pooling with, before either gate product: the two arguments the printed
    parts carry (the node features after four layers; the graph rows' features). -/
def feat (x1 : Vec F S5632x3 .f32) (x2 : Vec F S3x64 .bf16) (x3 : Vec F S1x64 .bf16) (x4 : Vec F S64x128 .bf16) (x5 : Vec F S1x128 .bf16)
    (x6 : Vec F S128x256 .bf16) (x7 : Vec F S1x256 .bf16) (x8 : Vec F S256x512 .bf16) (x9 : Vec F S1x512 .bf16) : FVec F S5632x512 .f32 :=
  k0_pay26 (k0_pay19 x1 x2 x3 x4 x5) x6 x7 x8 x9

def graphFeat (x1 : Vec F S5632x3 .f32) (x2 : Vec F S3x64 .bf16) (x3 : Vec F S1x64 .bf16) (x4 : Vec F S64x128 .bf16) (x5 : Vec F S1x128 .bf16)
    (x6 : Vec F S128x256 .bf16) (x7 : Vec F S1x256 .bf16) (x8 : Vec F S256x512 .bf16) (x9 : Vec F S1x512 .bf16) (x10 : Vec F S22x22 .f32) : FVec F S22x512 .f32 :=
  k0_pay27 (k0_pay14 x10) (k0_pay20 x1 x10 x2 x3 x4) (k0_pay21 x5) x6 x7 x8 x9

/-- The four rows of the forward gate table a point stores. -/
def gateF (a0 : BitVec 32) (x1 : Vec F S5632x3 .f32) (x2 : Vec F S3x64 .bf16) (x3 : Vec F S1x64 .bf16) (x4 : Vec F S64x128 .bf16) (x5 : Vec F S1x128 .bf16) (x6 : Vec F S128x256 .bf16) (x7 : Vec F S1x256 .bf16) (x8 : Vec F S256x512 .bf16) (x9 : Vec F S1x512 .bf16) (x10 : Vec F S22x22 .f32) (x11 : Vec F S64x1408 .bf16) (x12 : Vec F S512x1024 .bf16) (x13 : Vec F S1x1024 .f32) : FVec F S4x64x1024 .f32 :=
  k0_pay1 (k0_pay30 a0 (feat x1 x2 x3 x4 x5 x6 x7 x8 x9) (graphFeat x1 x2 x3 x4 x5 x6 x7 x8 x9 x10) k0_pay28 x11 x12 x13)

/-- The four rows of the backward gate table a point stores. -/
def gateB (a0 : BitVec 32) (x1 : Vec F S5632x3 .f32) (x2 : Vec F S3x64 .bf16) (x3 : Vec F S1x64 .bf16) (x4 : Vec F S64x128 .bf16) (x5 : Vec F S1x128 .bf16) (x6 : Vec F S128x256 .bf16) (x7 : Vec F S1x256 .bf16) (x8 : Vec F S256x512 .bf16) (x9 : Vec F S1x512 .bf16) (x10 : Vec F S22x22 .f32) (x11 : Vec F S64x1408 .bf16) (x14 : Vec F S512x1024 .bf16) (x15 : Vec F S1x1024 .f32) : FVec F S4x64x1024 .f32 :=
  k0_pay2 (k0_pay31 a0 (feat x1 x2 x3 x4 x5 x6 x7 x8 x9) (graphFeat x1 x2 x3 x4 x5 x6 x7 x8 x9 x10) k0_pay28 x11 x14) x15

/-- Time step `t` of a gate table. -/
def stepRow {α : Type} (X : S32x64x1024.Idx → α) (t : Fin 64) : S32x1x1024.Idx → α := fun y => X (ValueIdx.ix3 (y 0) t (y 2))

/-- What the recurrent loop carries: hidden and cell state forward, hidden and cell state backward, the two running sums. -/
abbrev Carry (F : FTy → Type) [FloatOps F] : Type :=
  FVec F S32x256 .f32 × FVec F S32x256 .f32 × FVec F S32x256 .f32 × FVec F S32x256 .f32 × FVec F S32x256 .f32 × FVec F S32x256 .f32

/-- One step of the recurrent loop. -/
def lstmStep (XF XB : Vec F S32x64x1024 .f32) (wf wb : Vec F S256x1024 .bf16) (t : Fin 64) (a : Carry F) : Carry F :=
  (k0_pay6 wf a.1 a.2.1 (stepRow XF t), k0_pay5 wf a.1 a.2.1 (stepRow XF t),
   k0_pay9 wb a.2.2.1 a.2.2.2.1 (stepRow XB t.rev), k0_pay8 wb a.2.2.1 a.2.2.2.1 (stepRow XB t.rev),
   k0_pay10 wf a.1 a.2.1 a.2.2.2.2.1 (stepRow XF t), k0_pay11 wb a.2.2.1 a.2.2.2.1 a.2.2.2.2.2 (stepRow XB t.rev))

/-- The loop's carried values after `n` steps from zero. -/
def lstmRun (XF XB : Vec F S32x64x1024 .f32) (wf wb : Vec F S256x1024 .bf16) : ℕ → Carry F
  | 0 => (k0_pay3, k0_pay3, k0_pay3, k0_pay3, k0_pay3, k0_pay3)
  | n + 1 => if h : n < 64 then lstmStep XF XB wf wb ⟨n, h⟩ (lstmRun XF XB wf wb n) else lstmRun XF XB wf wb n

/-- The output block the last point stores. -/
def outBlk (XF XB : Vec F S32x64x1024 .f32) (wf wb : Vec F S256x1024 .bf16) (wo : Vec F S512x512 .f32) (bo : Vec F S1x512 .f32) : FVec F S32x512 .f32 :=
  k0_pay12 (lstmRun XF XB wf wb 64).2.2.2.2.1 (lstmRun XF XB wf wb 64).2.2.2.2.2 wo bo

/-! ## The recurrent loop's carried value, in these words -/

theorem off2_eq : ∀ k : Fin k0_t1_loop.trips, k0_off2 k = ![0, k.val, 0] := by decide +kernel
theorem off3_eq : ∀ k : Fin k0_t1_loop.trips, k0_off3 k = ![0, 63 - k.val, 0] := by decide +kernel
theorem trips_eq : k0_t1_loop.trips = 64 := by decide +kernel

/-- A load at row `t` of the second axis is `stepRow`. -/
theorem window_row {α : Type} (X : S32x64x1024.Idx → α) (o : Fin 3 → ℕ) (inb : ∀ a, o a + S32x1x1024.size a ≤ S32x64x1024.size a) (t : Fin 64)
    (ho : o = ![0, t.val, 0]) : VecWindow.window X o S32x1x1024.size inb = stepRow X t := by
  subst ho
  funext y
  refine congrArg X (funext fun a => Fin.ext ?_)
  have h1 : (y 1).val = 0 := by have := (y 1).isLt; change (y 1).val < 1 at this; omega
  fin_cases a
  · show 0 + 1 * (y 0).val = (y 0).val; omega
  · show t.val + 1 * (y 1).val = t.val; omega
  · show 0 + 1 * (y 2).val = (y 2).val; omega

theorem trip_eq (𝒱 : Variants) (c : Dev nD) (bd : Option 𝒱.V) (i : grid0.Coords)
    (arg1 : Memref sig .tc .vmem S5632x3 .f32) (harg1 : arg1.IsWhole)
    (arg2 : Memref sig .tc .vmem S3x64 .bf16) (harg2 : arg2.IsWhole)
    (arg3 : Memref sig .tc .vmem S1x64 .bf16) (harg3 : arg3.IsWhole)
    (arg4 : Memref sig .tc .vmem S64x128 .bf16) (harg4 : arg4.IsWhole)
    (arg5 : Memref sig .tc .vmem S1x128 .bf16) (harg5 : arg5.IsWhole)
    (arg6 : Memref sig .tc .vmem S128x256 .bf16) (harg6 : arg6.IsWhole)
    (arg7 : Memref sig .tc .vmem S1x256 .bf16) (harg7 : arg7.IsWhole)
    (arg8 : Memref sig .tc .vmem S256x512 .bf16) (harg8 : arg8.IsWhole)
    (arg9 : Memref sig .tc .vmem S1x512 .bf16) (harg9 : arg9.IsWhole)
    (arg10 : Memref sig .tc .vmem S22x22 .f32) (harg10 : arg10.IsWhole)
    (arg11 : Memref sig .tc .vmem S64x1408 .bf16) (harg11 : arg11.IsWhole)
    (arg12 : Memref sig .tc .vmem S512x1024 .bf16) (harg12 : arg12.IsWhole)
    (arg13 : Memref sig .tc .vmem S1x1024 .f32) (harg13 : arg13.IsWhole)
    (arg14 : Memref sig .tc .vmem S512x1024 .bf16) (harg14 : arg14.IsWhole)
    (arg15 : Memref sig .tc .vmem S1x1024 .f32) (harg15 : arg15.IsWhole)
    (arg16 : Memref sig .tc .vmem S256x1024 .bf16) (harg16 : arg16.IsWhole)
    (arg17 : Memref sig .tc .vmem S256x1024 .bf16) (harg17 : arg17.IsWhole)
    (arg18 : Memref sig .tc .vmem S512x512 .f32) (harg18 : arg18.IsWhole)
    (arg19 : Memref sig .tc .vmem S1x512 .f32) (harg19 : arg19.IsWhole)
    (arg20 : Memref sig .tc .vmem S32x512 .f32) (harg20 : arg20.IsWhole)
    (arg21 : Memref sig .tc .vmem S32x64x1024 .f32) (harg21 : arg21.IsWhole)
    (arg22 : Memref sig .tc .vmem S32x64x1024 .f32) (harg22 : arg22.IsWhole)
    (h2 : k0_cond2 i = 1#1) (v6 v8 : Vec F S256x1024 .bf16) (f21 : BufTy.Contents (Elt F) arg21.view.ty) (f22 : BufTy.Contents (Elt F) arg22.view.ty)
    (k : Fin k0_t1_loop.trips) (a : Carry F) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 v6 v8 f21 f22 k a
      = lstmStep (arg21.view.read (Elt F) f21) (arg22.view.read (Elt F) f22) v6 v8 ⟨k.val, trips_eq ▸ k.isLt⟩ a := by
  unfold tripR_k0_t1 trip_k0_t1
  have e2 := window_row (arg21.view.read (Elt F) f21) _ (k0_off2_inb i k h2) ⟨k.val, trips_eq ▸ k.isLt⟩ (off2_eq k)
  have e3 := window_row (arg22.view.read (Elt F) f22) _ (k0_off3_inb i k h2) (Fin.rev ⟨k.val, trips_eq ▸ k.isLt⟩)
    ((off3_eq k).trans (by rw [Fin.val_rev]; show _ = ![0, 64 - (k.val + 1), 0]; rw [show 64 - (k.val + 1) = 63 - k.val by omega]))
  unfold lstmStep
  rw [← e2, ← e3]
  rfl

theorem st_eq (𝒱 : Variants) (c : Dev nD) (bd : Option 𝒱.V) (i : grid0.Coords)
    (arg1 : Memref sig .tc .vmem S5632x3 .f32) (harg1 : arg1.IsWhole)
    (arg2 : Memref sig .tc .vmem S3x64 .bf16) (harg2 : arg2.IsWhole)
    (arg3 : Memref sig .tc .vmem S1x64 .bf16) (harg3 : arg3.IsWhole)
    (arg4 : Memref sig .tc .vmem S64x128 .bf16) (harg4 : arg4.IsWhole)
    (arg5 : Memref sig .tc .vmem S1x128 .bf16) (harg5 : arg5.IsWhole)
    (arg6 : Memref sig .tc .vmem S128x256 .bf16) (harg6 : arg6.IsWhole)
    (arg7 : Memref sig .tc .vmem S1x256 .bf16) (harg7 : arg7.IsWhole)
    (arg8 : Memref sig .tc .vmem S256x512 .bf16) (harg8 : arg8.IsWhole)
    (arg9 : Memref sig .tc .vmem S1x512 .bf16) (harg9 : arg9.IsWhole)
    (arg10 : Memref sig .tc .vmem S22x22 .f32) (harg10 : arg10.IsWhole)
    (arg11 : Memref sig .tc .vmem S64x1408 .bf16) (harg11 : arg11.IsWhole)
    (arg12 : Memref sig .tc .vmem S512x1024 .bf16) (harg12 : arg12.IsWhole)
    (arg13 : Memref sig .tc .vmem S1x1024 .f32) (harg13 : arg13.IsWhole)
    (arg14 : Memref sig .tc .vmem S512x1024 .bf16) (harg14 : arg14.IsWhole)
    (arg15 : Memref sig .tc .vmem S1x1024 .f32) (harg15 : arg15.IsWhole)
    (arg16 : Memref sig .tc .vmem S256x1024 .bf16) (harg16 : arg16.IsWhole)
    (arg17 : Memref sig .tc .vmem S256x1024 .bf16) (harg17 : arg17.IsWhole)
    (arg18 : Memref sig .tc .vmem S512x512 .f32) (harg18 : arg18.IsWhole)
    (arg19 : Memref sig .tc .vmem S1x512 .f32) (harg19 : arg19.IsWhole)
    (arg20 : Memref sig .tc .vmem S32x512 .f32) (harg20 : arg20.IsWhole)
    (arg21 : Memref sig .tc .vmem S32x64x1024 .f32) (harg21 : arg21.IsWhole)
    (arg22 : Memref sig .tc .vmem S32x64x1024 .f32) (harg22 : arg22.IsWhole)
    (h2 : k0_cond2 i = 1#1) (v6 v8 : Vec F S256x1024 .bf16) (f21 : BufTy.Contents (Elt F) arg21.view.ty) (f22 : BufTy.Contents (Elt F) arg22.view.ty) (n : ℕ) (hn : n ≤ 64) :
    st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 v6 v8 f21 f22 (k0_pay3, k0_pay3, k0_pay3, k0_pay3, k0_pay3, k0_pay3) n
      = lstmRun (arg21.view.read (Elt F) f21) (arg22.view.read (Elt F) f22) v6 v8 n := by
  induction n with
  | zero => rw [st_k0_t1_zero]; rfl
  | succ n ih =>
    have h : n < 64 := by omega
    have hs := st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 v6 v8 f21 f22 (k0_pay3, k0_pay3, k0_pay3, k0_pay3, k0_pay3, k0_pay3) ⟨n, by rw [trips_eq]; exact h⟩
    rw [hs, trip_eq, ih (by omega)]
    rw [lstmRun, dif_pos h]

/-! ## The body, case by case -/

/-- A point below 8: four rows of each table stored, everything else as it was. -/
theorem runA (c : Dev nD) (E : Set ℕ) (i : grid0.Coords) (h1 : k0_cond1 i = 1#1) (h2 : ¬ k0_cond2 i = 1#1)
    (arg1 : Memref sig .tc .vmem S5632x3 .f32) (harg1 : arg1.IsWhole)
    (arg2 : Memref sig .tc .vmem S3x64 .bf16) (harg2 : arg2.IsWhole)
    (arg3 : Memref sig .tc .vmem S1x64 .bf16) (harg3 : arg3.IsWhole)
    (arg4 : Memref sig .tc .vmem S64x128 .bf16) (harg4 : arg4.IsWhole)
    (arg5 : Memref sig .tc .vmem S1x128 .bf16) (harg5 : arg5.IsWhole)
    (arg6 : Memref sig .tc .vmem S128x256 .bf16) (harg6 : arg6.IsWhole)
    (arg7 : Memref sig .tc .vmem S1x256 .bf16) (harg7 : arg7.IsWhole)
    (arg8 : Memref sig .tc .vmem S256x512 .bf16) (harg8 : arg8.IsWhole)
    (arg9 : Memref sig .tc .vmem S1x512 .bf16) (harg9 : arg9.IsWhole)
    (arg10 : Memref sig .tc .vmem S22x22 .f32) (harg10 : arg10.IsWhole)
    (arg11 : Memref sig .tc .vmem S64x1408 .bf16) (harg11 : arg11.IsWhole)
    (arg12 : Memref sig .tc .vmem S512x1024 .bf16) (harg12 : arg12.IsWhole)
    (arg13 : Memref sig .tc .vmem S1x1024 .f32) (harg13 : arg13.IsWhole)
    (arg14 : Memref sig .tc .vmem S512x1024 .bf16) (harg14 : arg14.IsWhole)
    (arg15 : Memref sig .tc .vmem S1x1024 .f32) (harg15 : arg15.IsWhole)
    (arg16 : Memref sig .tc .vmem S256x1024 .bf16) (harg16 : arg16.IsWhole)
    (arg17 : Memref sig .tc .vmem S256x1024 .bf16) (harg17 : arg17.IsWhole)
    (arg18 : Memref sig .tc .vmem S512x512 .f32) (harg18 : arg18.IsWhole)
    (arg19 : Memref sig .tc .vmem S1x512 .f32) (harg19 : arg19.IsWhole)
    (arg20 : Memref sig .tc .vmem S32x512 .f32) (harg20 : arg20.IsWhole)
    (arg21 : Memref sig .tc .vmem S32x64x1024 .f32) (harg21 : arg21.IsWhole)
    (arg22 : Memref sig .tc .vmem S32x64x1024 .f32) (harg22 : arg22.IsWhole)
    (x1 : Vec F S5632x3 .f32) (x2 : Vec F S3x64 .bf16) (x3 : Vec F S1x64 .bf16) (x4 : Vec F S64x128 .bf16) (x5 : Vec F S1x128 .bf16) (x6 : Vec F S128x256 .bf16) (x7 : Vec F S1x256 .bf16) (x8 : Vec F S256x512 .bf16) (x9 : Vec F S1x512 .bf16) (x10 : Vec F S22x22 .f32) (x11 : Vec F S64x1408 .bf16) (x12 : Vec F S512x1024 .bf16) (x13 : Vec F S1x1024 .f32) (x14 : Vec F S512x1024 .bf16) (x15 : Vec F S1x1024 .f32) (x21 : Vec F S32x64x1024 .f32) (x22 : Vec F S32x64x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg21 fullShare x21 ∗ owns (c : Thread nD τ) arg22 fullShare x22
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg21 fullShare (VecWindow.put x21 (k0_off1 i) S4x64x1024.size (gateF (BitVec.ofNat 32 (i 0).val) x1 x2 x3 x4 x5 x6 x7 x8 x9 x10 x11 x12 x13)) ∗ owns (c : Thread nD τ) arg22 fullShare (VecWindow.put x22 (k0_off1 i) S4x64x1024.size (gateB (BitVec.ofNat 32 (i 0).val) x1 x2 x3 x4 x5 x6 x7 x8 x9 x10 x11 x14 x15))) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_body_eq_skeleton]; unfold cc0__fused_body_skel
  rw [dif_pos h1, dif_neg h2]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f21, %hf21, H21⟩, ⟨%f22, %hf22, H22⟩, Hk⟩
  subst hf1 hf2 hf3 hf4 hf5 hf6 hf7 hf8 hf9 hf10 hf11 hf12 hf13 hf14 hf15 hf21 hf22
  sl_exec
  sl_step
  have e10 : runA.sl.v10 c arg10 f10 = k0_pay14 (View.readAt (Elt F) arg10.view (Rect.unit ![0, 0] S22x22.size inb_S22x22_S22x22_0_0).toLoadRect f10) := rfl
  have e40 : runA.sl.v40 c arg1 arg2 arg3 arg4 arg5 f1 f2 f3 f4 f5 = k0_pay19 (View.readAt (Elt F) arg1.view (Rect.unit ![0, 0] S5632x3.size inb_S5632x3_S5632x3_0_0).toLoadRect f1) (View.readAt (Elt F) arg2.view (Rect.unit ![0, 0] S3x64.size inb_S3x64_S3x64_0_0).toLoadRect f2) (View.readAt (Elt F) arg3.view (Rect.unit ![0, 0] S1x64.size inb_S1x64_S1x64_0_0).toLoadRect f3) (View.readAt (Elt F) arg4.view (Rect.unit ![0, 0] S64x128.size inb_S64x128_S64x128_0_0).toLoadRect f4) (View.readAt (Elt F) arg5.view (Rect.unit ![0, 0] S1x128.size inb_S1x128_S1x128_0_0).toLoadRect f5) := rfl
  have e43 : runA.sl.v43 c arg1 arg2 arg3 arg4 arg10 f1 f2 f3 f4 f10 = k0_pay20 (View.readAt (Elt F) arg1.view (Rect.unit ![0, 0] S5632x3.size inb_S5632x3_S5632x3_0_0).toLoadRect f1) (View.readAt (Elt F) arg10.view (Rect.unit ![0, 0] S22x22.size inb_S22x22_S22x22_0_0).toLoadRect f10) (View.readAt (Elt F) arg2.view (Rect.unit ![0, 0] S3x64.size inb_S3x64_S3x64_0_0).toLoadRect f2) (View.readAt (Elt F) arg3.view (Rect.unit ![0, 0] S1x64.size inb_S1x64_S1x64_0_0).toLoadRect f3) (View.readAt (Elt F) arg4.view (Rect.unit ![0, 0] S64x128.size inb_S64x128_S64x128_0_0).toLoadRect f4) := rfl
  have e36 : runA.sl.v36 c arg5 f5 = k0_pay21 (View.readAt (Elt F) arg5.view (Rect.unit ![0, 0] S1x128.size inb_S1x128_S1x128_0_0).toLoadRect f5) := rfl
  have e85 : runA.sl.v85 (F := F) = k0_pay28 := rfl
  have e78 : runA.sl.v78 c arg1 arg2 arg3 arg4 arg5 arg6 arg7 arg8 arg9 f1 f2 f3 f4 f5 f6 f7 f8 f9 = k0_pay26 (runA.sl.v40 c arg1 arg2 arg3 arg4 arg5 f1 f2 f3 f4 f5) (View.readAt (Elt F) arg6.view (Rect.unit ![0, 0] S128x256.size inb_S128x256_S128x256_0_0).toLoadRect f6) (View.readAt (Elt F) arg7.view (Rect.unit ![0, 0] S1x256.size inb_S1x256_S1x256_0_0).toLoadRect f7) (View.readAt (Elt F) arg8.view (Rect.unit ![0, 0] S256x512.size inb_S256x512_S256x512_0_0).toLoadRect f8) (View.readAt (Elt F) arg9.view (Rect.unit ![0, 0] S1x512.size inb_S1x512_S1x512_0_0).toLoadRect f9) := rfl
  have e84 : runA.sl.v84 c arg1 arg2 arg3 arg4 arg5 arg6 arg7 arg8 arg9 arg10 f1 f2 f3 f4 f5 f6 f7 f8 f9 f10 = k0_pay27 (runA.sl.v10 c arg10 f10) (runA.sl.v43 c arg1 arg2 arg3 arg4 arg10 f1 f2 f3 f4 f10) (runA.sl.v36 c arg5 f5) (View.readAt (Elt F) arg6.view (Rect.unit ![0, 0] S128x256.size inb_S128x256_S128x256_0_0).toLoadRect f6) (View.readAt (Elt F) arg7.view (Rect.unit ![0, 0] S1x256.size inb_S1x256_S1x256_0_0).toLoadRect f7) (View.readAt (Elt F) arg8.view (Rect.unit ![0, 0] S256x512.size inb_S256x512_S256x512_0_0).toLoadRect f8) (View.readAt (Elt F) arg9.view (Rect.unit ![0, 0] S1x512.size inb_S1x512_S1x512_0_0).toLoadRect f9) := rfl
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H21]
  · iexists _; isplitr
    swap; · iexact H21
    ipureintro
    rw [View.read_writes_cons_put _ _ _ _ _ rfl]
    delta runA.sl.r
    simp only [View.writes_nil]
    rw [e84, e78, e40, e43, e10, e36, e85]
    repeat rw [View.readAt_full]
    unfold gateF feat graphFeat
    with_reducible rfl
  · iexists _; isplitr
    swap; · iexact H22
    ipureintro
    rw [View.read_writes_cons_put _ _ _ _ _ rfl]
    delta runA.sl.r_1
    simp only [View.writes_nil]
    rw [e84, e78, e40, e43, e10, e36, e85]
    repeat rw [View.readAt_full]
    unfold gateB feat graphFeat
    with_reducible rfl

/-- Point 8: the output block stored, the tables read. -/
theorem runB (c : Dev nD) (E : Set ℕ) (i : grid0.Coords) (h1 : ¬ k0_cond1 i = 1#1) (h2 : k0_cond2 i = 1#1)
    (arg1 : Memref sig .tc .vmem S5632x3 .f32) (harg1 : arg1.IsWhole)
    (arg2 : Memref sig .tc .vmem S3x64 .bf16) (harg2 : arg2.IsWhole)
    (arg3 : Memref sig .tc .vmem S1x64 .bf16) (harg3 : arg3.IsWhole)
    (arg4 : Memref sig .tc .vmem S64x128 .bf16) (harg4 : arg4.IsWhole)
    (arg5 : Memref sig .tc .vmem S1x128 .bf16) (harg5 : arg5.IsWhole)
    (arg6 : Memref sig .tc .vmem S128x256 .bf16) (harg6 : arg6.IsWhole)
    (arg7 : Memref sig .tc .vmem S1x256 .bf16) (harg7 : arg7.IsWhole)
    (arg8 : Memref sig .tc .vmem S256x512 .bf16) (harg8 : arg8.IsWhole)
    (arg9 : Memref sig .tc .vmem S1x512 .bf16) (harg9 : arg9.IsWhole)
    (arg10 : Memref sig .tc .vmem S22x22 .f32) (harg10 : arg10.IsWhole)
    (arg11 : Memref sig .tc .vmem S64x1408 .bf16) (harg11 : arg11.IsWhole)
    (arg12 : Memref sig .tc .vmem S512x1024 .bf16) (harg12 : arg12.IsWhole)
    (arg13 : Memref sig .tc .vmem S1x1024 .f32) (harg13 : arg13.IsWhole)
    (arg14 : Memref sig .tc .vmem S512x1024 .bf16) (harg14 : arg14.IsWhole)
    (arg15 : Memref sig .tc .vmem S1x1024 .f32) (harg15 : arg15.IsWhole)
    (arg16 : Memref sig .tc .vmem S256x1024 .bf16) (harg16 : arg16.IsWhole)
    (arg17 : Memref sig .tc .vmem S256x1024 .bf16) (harg17 : arg17.IsWhole)
    (arg18 : Memref sig .tc .vmem S512x512 .f32) (harg18 : arg18.IsWhole)
    (arg19 : Memref sig .tc .vmem S1x512 .f32) (harg19 : arg19.IsWhole)
    (arg20 : Memref sig .tc .vmem S32x512 .f32) (harg20 : arg20.IsWhole)
    (arg21 : Memref sig .tc .vmem S32x64x1024 .f32) (harg21 : arg21.IsWhole)
    (arg22 : Memref sig .tc .vmem S32x64x1024 .f32) (harg22 : arg22.IsWhole)
    (x16 : Vec F S256x1024 .bf16) (x17 : Vec F S256x1024 .bf16) (x18 : Vec F S512x512 .f32) (x19 : Vec F S1x512 .f32) (x20 : Vec F S32x512 .f32) (x21 : Vec F S32x64x1024 .f32) (x22 : Vec F S32x64x1024 .f32) (K : PUnit → sProp 𝕄) :
    iprop(owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (outBlk x21 x22 x16 x17 x18 x19) ∗ owns (c : Thread nD τ) arg21 fullShare x21 ∗ owns (c : Thread nD τ) arg22 fullShare x22) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_body_eq_skeleton]; unfold cc0__fused_body_skel
  rw [dif_neg h1, dif_pos h2]
  unfold owns
  iintro ⟨⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  subst hf16 hf17 hf18 hf19 hf20 hf21 hf22
  sl_exec
  sl_step
  iapply Hk
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    rw [View.read_writes_full]
    repeat rw [View.readAt_full]
    rw [show Scf.trips k0_t1_loop.lb k0_t1_loop.ub k0_t1_loop.st = 64 from trips_eq, st_eq (hn := le_refl 64)]
    unfold outBlk
    with_reducible rfl
  isplitl [H21]
  · iexists f21; isplitr; · ipureintro; rfl
    iexact H21
  iexists f22; isplitr; · ipureintro; rfl
  iexact H22

end Cert.Proof.Body

end
-- ==== Proof.Tables.lean ====
/- The launch of the kernel whose two scratch buffers carry the gate tables from point to point. Before point `t` the first
   `4 t` batch rows of each scratch buffer hold the gate tables (`tabF`, `tabB`); at the last point both are whole, so that
   the output block is `result`, a plain function of the arrays as the region finds them. -/
module

public import proofs.«01_k».proof.Proof.Body
public import Idealize.ShloMosaic.Lib.Claim

@[expose] public section

set_option maxRecDepth 16384
set_option maxHeartbeats 800000

noncomputable section

namespace Cert.Proof.Tables

open Cert.Proof.Body Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The gate tables -/

/-- The point that stores an entry's batch row, and the entry's place in what that point stores. -/
def ptOf (y : S32x64x1024.Idx) : Fin cfg0.N := ⟨(y 0).val / 4, by have h : cfg0.N = 9 := N_0; have : (y 0).val < 32 := (y 0).isLt; omega⟩
def locOf (y : S32x64x1024.Idx) : S4x64x1024.Idx := ValueIdx.ix3 ⟨(y 0).val % 4, Nat.mod_lt _ (by norm_num)⟩ (y 1) (y 2)

/-- What point `t` stores in each table. -/
def rowsF (c : Dev nD) (t : Fin cfg0.N) : FVec F S4x64x1024 .f32 :=
  gateF (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
def rowsB (c : Dev nD) (t : Fin cfg0.N) : FVec F S4x64x1024 .f32 :=
  gateB (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 13 t) (iblk m c 14 t)

/-- The two gate tables whole. -/
def tabF (c : Dev nD) : Vec F S32x64x1024 .f32 := fun y => rowsF m c (ptOf y) (locOf y)
def tabB (c : Dev nD) : Vec F S32x64x1024 .f32 := fun y => rowsB m c (ptOf y) (locOf y)

/-- The first `4 t` batch rows of `X` are `G`'s. -/
def Good (t : ℕ) (X G : Vec F S32x64x1024 .f32) : Prop := ∀ y : S32x64x1024.Idx, (y 0).val < 4 * t → X y = G y

theorem good_zero (X G : Vec F S32x64x1024 .f32) : Good 0 X G := fun y h => absurd h (by omega)

theorem good_all {X G : Vec F S32x64x1024 .f32} (h : Good 8 X G) : X = G := by
  funext y
  exact h y (by have : (y 0).val < 32 := (y 0).isLt; omega)

/-- The grid's points are its one coordinate; the two branches' conditions and the stores' offset there. -/
theorem coords_eq : ∀ t : Fin cfg0.N, ((grid0.coords t) 0).val = t.val := by decide +kernel
theorem cond1_lo : ∀ t : Fin cfg0.N, t.val < 8 → k0_cond1 (grid0.coords t) = 1#1 ∧ ¬ k0_cond2 (grid0.coords t) = 1#1 := by decide +kernel
theorem cond2_hi : ∀ t : Fin cfg0.N, ¬ t.val < 8 → ¬ k0_cond1 (grid0.coords t) = 1#1 ∧ k0_cond2 (grid0.coords t) = 1#1 := by decide +kernel
theorem off1_eq : ∀ t : Fin cfg0.N, t.val < 8 → k0_off1 (grid0.coords t) = ![4 * t.val, 0, 0] := by decide +kernel

/-- Storing point `t`'s four rows extends the good rows. -/
theorem good_put (R : Fin cfg0.N → FVec F S4x64x1024 .f32) (t : Fin cfg0.N) (ht : t.val < 8) (X : Vec F S32x64x1024 .f32)
    (h : Good t.val X (fun y => R (ptOf y) (locOf y))) :
    Good (t.val + 1) (VecWindow.put X (k0_off1 (grid0.coords t)) S4x64x1024.size (R t)) (fun y => R (ptOf y) (locOf y)) := by
  intro y hy
  rw [off1_eq t ht]
  unfold VecWindow.put
  split
  · rename_i hin
    have h0 := hin 0
    have h0' : 4 * t.val ≤ (y 0).val ∧ (y 0).val < 4 * t.val + 4 := h0
    have ep : ptOf y = t := Fin.ext (by show (y 0).val / 4 = t.val; omega)
    show _ = R (ptOf y) (locOf y)
    rw [ep]
    congr 1
    funext a
    apply Fin.ext
    rw [Rect.unitLocal_val]
    fin_cases a
    · show (y 0).val - 4 * t.val = (y 0).val % 4
      omega
    · show (y 1).val - 0 = (y 1).val
      omega
    · show (y 2).val - 0 = (y 2).val
      omega
  · rename_i hout
    apply h
    by_contra hc
    apply hout
    intro a
    fin_cases a
    · show 4 * t.val ≤ (y 0).val ∧ (y 0).val < 4 * t.val + 4
      omega
    · show 0 ≤ (y 1).val ∧ (y 1).val < 0 + 64
      have : (y 1).val < 64 := (y 1).isLt
      omega
    · show 0 ≤ (y 2).val ∧ (y 2).val < 0 + 1024
      have : (y 2).val < 1024 := (y 2).isLt
      omega

/-- What the last point stores. -/
def result (c : Dev nD) (t : Fin cfg0.N) : FVec F S32x512 .f32 :=
  outBlk (tabF m c) (tabB m c) (iblk m c 15 t) (iblk m c 16 t) (iblk m c 17 t) (iblk m c 18 t)

/-! ## The proof data -/

/-- The invariant before point `t`: the scratch buffers with their first `4 t` batch rows known, and the generator register. -/
def inv (c : Dev nD) (t : ℕ) : sProp 𝕄 :=
  iprop((∃ X : Vec F S32x64x1024 .f32, ⌜Good t X (tabF m c)⌝ ∗ owns (c : Thread nD τ) (Memref.whole cc0_scratch0) fullShare X)
    ∗ (∃ X : Vec F S32x64x1024 .f32, ⌜Good t X (tabB m c)⌝ ∗ owns (c : Thread nD τ) (Memref.whole cc0_scratch1) fullShare X)
    ∗ ∃ r, prngReg c r)

/-- The proof data on core `c`: each input's buffer left at its block, the output's at `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => result m c t
    | ⟨k + 20, h⟩ => absurd h (by have e : cfg0.W = 20 := rfl; omega)
  Φ t := inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = result m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d

/-! ## The body at every point -/

/-- Window 19's buffer after the body: as it was where the window is idle and not written back, else the block. -/
def post19 (c : Dev nD) (t : Fin cfg0.N) : sProp 𝕄 :=
  match cfg0.idle 19 (cfg0.grid.coords t) with
  | true =>
    match (cfg0.win 19).flush t with
    | false => iprop(∃ d, owns (c : Thread nD τ) (st0_19 t) fullShare ((dats m 0 c).before 19 t d))
    | true => owns (c : Thread nD τ) (st0_19 t) fullShare ((dats m 0 c).after 19 t)
  | false => owns (c : Thread nD τ) (st0_19 t) fullShare ((dats m 0 c).after 19 t)

theorem idle19_lo (t : Fin cfg0.N) (ht : t.val < 8) : cfg0.idle 19 (cfg0.grid.coords t) = true := by
  show (!(k0_cond2 (grid0.coords t) == 1#1)) = true
  have := (cond1_lo t ht).2
  simpa using this
theorem idle19_hi (t : Fin cfg0.N) (ht : ¬ t.val < 8) : cfg0.idle 19 (cfg0.grid.coords t) = false := by
  show (!(k0_cond2 (grid0.coords t) == 1#1)) = false
  have := (cond2_hi t ht).2
  simpa using this
theorem flush19_lo (t : Fin cfg0.N) (ht : t.val < 8) : (cfg0.win 19).flush t = false := by
  have := (flush0_19 t).not.mpr (by omega)
  simpa using this

theorem post19_lo (c : Dev nD) (t : Fin cfg0.N) (ht : t.val < 8) :
    post19 m c t = iprop(∃ d, owns (c : Thread nD τ) (st0_19 t) fullShare ((dats m 0 c).before 19 t d)) := by
  unfold post19
  rw [idle19_lo t ht, flush19_lo t ht]
theorem post19_hi (c : Dev nD) (t : Fin cfg0.N) (ht : ¬ t.val < 8) :
    post19 m c t = owns (c : Thread nD τ) (st0_19 t) fullShare (result m c t) := by
  unfold post19
  rw [idle19_hi t ht, after_19]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ post19 m c t)

theorem phi_pre (c : Dev nD) (t : Fin cfg0.N) : (dats m 0 c).Φ t.castSucc = inv m c t.val := by dsimp only [dats, Fin.val_castSucc]
theorem phi_post (c : Dev nD) (t : Fin cfg0.N) : (dats m 0 c).Φ t.succ = inv m c (t.val + 1) := by dsimp only [dats, Fin.val_succ]

/-- A point below 8 stores its four rows of each table. -/
theorem sound_lo (c : Dev nD) (t : Fin cfg0.N) (ht : t.val < 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [phi_pre, phi_post, show (dats m 0 c).owesAt () t.succ = (dats m 0 c).owesAt () t.castSucc from rfl,
    after_0, after_1, after_2, after_3, after_4, after_5, after_6, after_7, after_8, after_9, after_10, after_11, after_12, after_13, after_14, after_15, after_16, after_17, after_18, post19_lo m c t ht]
  unfold inv
  iintro ⟨⟨⟨%X, %hX, S0⟩, ⟨%Y, %hY, S1⟩, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runA c Set.univ (grid0.coords t) (cond1_lo t ht).1 (cond1_lo t ht).2 _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) X Y _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  iintro ⟨H1, H2, H3, H4, H5, H6, H7, H8, H9, H10, H11, H12, H13, H14, H15, S0, S1⟩
  isplitl [S0 S1 HR]
  · isplitl [S0]
    · iexists _; isplitr; swap; · iexact S0
      ipureintro; exact good_put (rowsF m c) t ht X hX
    isplitl [S1]
    · iexists _; isplitr; swap; · iexact S1
      ipureintro; exact good_put (rowsB m c) t ht Y hY
    iexact HR
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexists d20; iexact H20

/-- The last point reads both tables whole and stores the output block. -/
theorem sound_hi (c : Dev nD) (t : Fin cfg0.N) (ht : ¬ t.val < 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [phi_pre, phi_post, show (dats m 0 c).owesAt () t.succ = (dats m 0 c).owesAt () t.castSucc from rfl,
    after_0, after_1, after_2, after_3, after_4, after_5, after_6, after_7, after_8, after_9, after_10, after_11, after_12, after_13, after_14, after_15, after_16, after_17, after_18, post19_hi m c t ht]
  unfold inv
  iintro ⟨⟨⟨%X, %hX, S0⟩, ⟨%Y, %hY, S1⟩, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have ht8 : t.val = 8 := by have := t.isLt; have h : cfg0.N = 9 := N_0; omega
  rw [ht8] at hX hY
  obtain rfl := good_all hX
  obtain rfl := good_all hY
  iapply (runB c Set.univ (grid0.coords t) (cond2_hi t ht).1 (cond2_hi t ht).2 _ _ _ _ _ _ _ _ _ _ _ _ _ _ _ _ _ _ _ _ _ _ _ _ _ _ _ _ _ _ _ _ _ _ _ _ _ _ _ _ _ _ _ _ (iblk m c 15 t) (iblk m c 16 t) (iblk m c 17 t) (iblk m c 18 t) ((dats m 0 c).before 19 t d20) (tabF m c) (tabB m c) _)
  isplitl [H16]; · iexact H16
  isplitl [H17]; · iexact H17
  isplitl [H18]; · iexact H18
  isplitl [H19]; · iexact H19
  isplitl [H20]; · iexact H20
  isplitl [S0]; · iexact S0
  isplitl [S1]; · iexact S1
  iintro ⟨H16, H17, H18, H19, H20, S0, S1⟩
  isplitl [S0 S1 HR]
  · isplitl [S0]
    · iexists _; isplitr; swap; · iexact S0
      ipureintro; exact fun _ _ => rfl
    isplitl [S1]
    · iexists _; isplitr; swap; · iexact S1
      ipureintro; exact fun _ _ => rfl
    iexact HR
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem sound_body (c : Dev nD) (t : Fin cfg0.N) :
    bodyPre m c t ⊢ wp frame (wpE (defs₀ (F := F)) Variants.none c none) Set.univ (bodyAt0 t) (fun _ => bodyPost m c t) := by
  by_cases ht : t.val < 8
  · exact sound_lo m c t ht
  · exact sound_hi m c t ht

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- Before the first point the scratch buffers hold anything. -/
theorem hin (c : Dev nD) : Pipeline.ΦA spec0 c ⊢ (dats (F := F) m 0 c).Φ 0 := by
  rw [show (dats (F := F) m 0 c).Φ 0 = inv m c 0 from by dsimp only [dats, Fin.val_zero]]
  unfold Pipeline.ΦA inv
  rw [scopedRest0_eq c]
  simp only [owns_whole]
  iintro ⟨⟨⟨%f0, S0⟩, ⟨%f1, S1⟩⟩, HR⟩
  isplitl [S0]
  · iexists f0; isplitr; · ipureintro; exact good_zero _ _
    iexact S0
  isplitl [S1]
  · iexists f1; isplitr; · ipureintro; exact good_zero _ _
    iexact S1
  iexact HR

/-- After the last their contents are forgotten. -/
theorem hout (c : Dev nD) : (dats (F := F) m 0 c).Φ (Fin.last cfg0.N) ⊢ Pipeline.ΦA spec0 c := by
  rw [show (dats (F := F) m 0 c).Φ (Fin.last cfg0.N) = inv m c cfg0.N from by dsimp only [dats, Fin.val_last]]
  unfold Pipeline.ΦA inv
  rw [scopedRest0_eq c]
  simp only [owns_whole]
  iintro ⟨⟨%X, -, S0⟩, ⟨%Y, -, S1⟩, HR⟩
  isplitl [S0 S1]
  · isplitl [S0]; · iexists X; iexact S0
    iexists Y; iexact S1
  iexact HR

-- the launch theorem's implicit arguments are found by unifying its conclusion with this one, which takes unfolding plain
-- definitions in a type
set_option backward.isDefEq.respectTransparency.types false in
/-- Every run ends with every array at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Proof.Tables

end
-- ==== Proof.RefFrame.lean ====
/- The reference runs, its arguments end unchanged, and it declares no semaphore, so that every counter is zero. -/
module

public import proofs.«01_k».proof.Proof.Gen.ReferenceIdeal.Run
public import Idealize.ShloMosaic.Lib.Claim
public import Idealize.ShloMosaic.Lib.Quiescent

@[expose] public section

noncomputable section

namespace Cert.Proof.RefFrame

open Cert.ReferenceIdeal Cert.ReferenceIdeal.Gen
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) := by
  refine θ_run_and ((θ_run defs _ _).mono (fun r h c => (h c).2) (Cert.ReferenceIdeal.Value.run m ρ)) ?_
  exact (θ_run defs _ _).mono (fun r _ => sem_eq_zero_of_no_sems (by decide) _) (Cert.ReferenceIdeal.Value.run m ρ)

end Cert.Proof.RefFrame

end
-- ==== Proof.Spec.lean ====
/- What the network computes, over the extended reals: four graph convolutions over the nodes of one group of 22, the mean
   over the nodes, an LSTM read in both directions, the mean over time and the last product. Only the first group of 22 rows
   has edges; every other row has its self loop alone, with weight one. -/
module

public import Idealize.ShloMosaic.PureOps.Ideal
public import Mathlib.Data.EReal.Inv

@[expose] public section

noncomputable section

namespace Cert.Proof.Spec

open Idealize.ShloMosaic

/-! ## The graph of the first group -/

/-- Where edge `e` starts and ends: 22 self links, then 21 links between neighbours. -/
def src (e : Fin 43) : Fin 22 :=
  (![0, 1, 2, 3, 4, 5, 6, 7, 8, 9, 10, 11, 12, 13, 14, 15, 16, 17, 18, 19, 20, 21,
    1, 2, 3, 4, 5, 6, 7, 8, 9, 10, 11, 12, 13, 14, 15, 16, 17, 18, 19, 20, 21] : Fin 43 → Fin 22) e
def dst (e : Fin 43) : Fin 22 :=
  (![0, 1, 2, 3, 4, 5, 6, 7, 8, 9, 10, 11, 12, 13, 14, 15, 16, 17, 18, 19, 20, 21,
    0, 1, 2, 3, 0, 5, 6, 7, 0, 9, 10, 11, 12, 11, 14, 15, 16, 11, 18, 19, 20] : Fin 43 → Fin 22) e

/-- How many edges of one copy of the list end at `r`, and how many of them start at `s`. -/
def inCount (r : Fin 22) : ℕ := (Finset.univ.filter fun e => dst e = r).card
def edgeCount (r s : Fin 22) : ℕ := (Finset.univ.filter fun e => dst e = r ∧ src e = s).card

/-- The degree and the multiplicity with 64 copies of the list and one self loop a node. -/
def deg (r : Fin 22) : ℕ := 64 * inCount r + 1
def mult (r s : Fin 22) : ℕ := 64 * edgeCount r s + if r = s then 1 else 0

/-- The power −1/2 that both programs take of a degree. -/
def invSqrt (x : EReal) : EReal := Ideal.pow x (Ideal.ofBits .f32 0xBF000000#32)

def norm (r : Fin 22) : EReal := invSqrt (deg r : ℕ)

/-! ## The graph convolutions -/

/-- A layer at a row whose only edge is its self loop. -/
def plain {K N : ℕ} (w : Fin K → Fin N → EReal) (b : Fin N → EReal) (v : Fin K → EReal) (d : Fin N) : EReal :=
  max ((∑ k, v k * w k d) + b d) 0

/-- A layer at the rows of the first group. -/
def graph {K N : ℕ} (w : Fin K → Fin N → EReal) (b : Fin N → EReal) (M : Fin 22 → Fin K → EReal) (r : Fin 22) (d : Fin N) : EReal :=
  max ((∑ s, mult r s • (norm s * norm r * ∑ k, M s k * w k d)) + b d) 0

/-- The weights of the four layers. -/
structure Net where
  w1 : Fin 3 → Fin 64 → EReal
  b1 : Fin 64 → EReal
  w2 : Fin 64 → Fin 128 → EReal
  b2 : Fin 128 → EReal
  w3 : Fin 128 → Fin 256 → EReal
  b3 : Fin 256 → EReal
  w4 : Fin 256 → Fin 512 → EReal
  b4 : Fin 512 → EReal

def Net.row (p : Net) (v : Fin 3 → EReal) : Fin 512 → EReal := plain p.w4 p.b4 (plain p.w3 p.b3 (plain p.w2 p.b2 (plain p.w1 p.b1 v)))

def Net.nodes (p : Net) (M : Fin 22 → Fin 3 → EReal) : Fin 22 → Fin 512 → EReal :=
  graph p.w4 p.b4 (graph p.w3 p.b3 (graph p.w2 p.b2 (graph p.w1 p.b1 M)))

/-- Row `n` of group `g`. -/
def rowOf (g : Fin 2048) (n : Fin 22) : Fin 45056 := ⟨22 * g.val + n.val, by omega⟩

/-- The mean over the nodes divides by 22. -/
def by22 (x : EReal) : EReal := Ideal.div x (Ideal.ofBits .f32 0x41B00000#32)

/-- The features of a group: the mean of its nodes' values after four layers. -/
def Net.feature (p : Net) (X : Fin 45056 → Fin 3 → EReal) (g : Fin 2048) (f : Fin 512) : EReal :=
  by22 (∑ n, if g.val = 0 then p.nodes (fun r => X (rowOf g r)) n f else p.row (X (rowOf g n)) f)

/-! ## The LSTM -/

/-- The gates' part that does not depend on the state. -/
def inGate (W : Fin 1024 → Fin 512 → EReal) (bi bh : Fin 1024 → EReal) (v : Fin 512 → EReal) (j : Fin 1024) : EReal :=
  (∑ f, v f * W j f) + (bi j + bh j)

def gates (U : Fin 1024 → Fin 256 → EReal) (x : Fin 1024 → EReal) (h : Fin 256 → EReal) (j : Fin 1024) : EReal := x j + ∑ k, h k * U j k

def cellC (z : Fin 1024 → EReal) (c : Fin 256 → EReal) (j : Fin 256) : EReal :=
  Ideal.logistic (z ⟨256 + j.val, by omega⟩) * c j + Ideal.logistic (z ⟨j.val, by omega⟩) * Ideal.tanh (z ⟨512 + j.val, by omega⟩)

def cellH (z : Fin 1024 → EReal) (c : Fin 256 → EReal) (j : Fin 256) : EReal :=
  Ideal.logistic (z ⟨768 + j.val, by omega⟩) * Ideal.tanh (cellC z c j)

/-- The hidden and the cell state after `n` steps, the input parts of the gates being `gx`. -/
def state (U : Fin 1024 → Fin 256 → EReal) (gx : Fin 64 → Fin 1024 → EReal) : ℕ → (Fin 256 → EReal) × (Fin 256 → EReal)
  | 0 => (fun _ => 0, fun _ => 0)
  | n + 1 =>
    if h : n < 64 then
      (cellH (gates U (gx ⟨n, h⟩) (state U gx n).1) (state U gx n).2, cellC (gates U (gx ⟨n, h⟩) (state U gx n).1) (state U gx n).2)
    else state U gx n

theorem state_succ (U : Fin 1024 → Fin 256 → EReal) (gx : Fin 64 → Fin 1024 → EReal) {n : ℕ} (h : n < 64) :
    state U gx (n + 1) = (cellH (gates U (gx ⟨n, h⟩) (state U gx n).1) (state U gx n).2, cellC (gates U (gx ⟨n, h⟩) (state U gx n).1) (state U gx n).2) := by
  rw [state, dif_pos h]

/-- The hidden states of the first `n` steps, summed. -/
def total (U : Fin 1024 → Fin 256 → EReal) (gx : Fin 64 → Fin 1024 → EReal) (n : ℕ) (k : Fin 256) : EReal :=
  ∑ t ∈ Finset.range n, (state U gx (t + 1)).1 k

/-- The weights of the LSTM's two directions and of the last product. -/
structure Rec where
  wf : Fin 1024 → Fin 512 → EReal
  uf : Fin 1024 → Fin 256 → EReal
  bxf : Fin 1024 → EReal
  bhf : Fin 1024 → EReal
  wb : Fin 1024 → Fin 512 → EReal
  ub : Fin 1024 → Fin 256 → EReal
  bxb : Fin 1024 → EReal
  bhb : Fin 1024 → EReal
  wo : Fin 512 → Fin 512 → EReal
  bo : Fin 512 → EReal

/-- The features of batch row `b` at time `t` belong to group `64 b + t`. -/
def groupOf (b : Fin 32) (t : Fin 64) : Fin 2048 := ⟨64 * b.val + t.val, by omega⟩

/-- The input parts of the gates of batch row `b`: forward by time, backward by time reversed. -/
def Rec.gxf (q : Rec) (E : Fin 2048 → Fin 512 → EReal) (b : Fin 32) (t : Fin 64) : Fin 1024 → EReal := inGate q.wf q.bxf q.bhf (E (groupOf b t))
def Rec.gxb (q : Rec) (E : Fin 2048 → Fin 512 → EReal) (b : Fin 32) (t : Fin 64) : Fin 1024 → EReal := inGate q.wb q.bxb q.bhb (E (groupOf b t.rev))

/-- The last product of the two totals, times 1/64, plus the bias. -/
def Rec.out (q : Rec) (E : Fin 2048 → Fin 512 → EReal) (b : Fin 32) (d : Fin 512) : EReal :=
  ((∑ k : Fin 256, total q.uf (q.gxf E b) 64 k * q.wo ⟨k.val, by omega⟩ d) + ∑ k : Fin 256, total q.ub (q.gxb E b) 64 k * q.wo ⟨256 + k.val, by omega⟩ d)
    * ((1 / 64 : ℝ) : EReal) + q.bo d

/-! ## The whole network -/

/-- The arguments. -/
structure Args where
  net : Net
  lstm : Rec
  x : Fin 32 → Fin 64 → Fin 22 → Fin 3 → EReal

/-- Row `r` of the input as the layers read it: node by node, every node's 2048 rows in the order of batch and time. -/
def Args.rows (a : Args) (r : Fin 45056) : Fin 3 → EReal := a.x ⟨r.val % 2048 / 64, by omega⟩ ⟨r.val % 2048 % 64, by omega⟩ ⟨r.val / 2048, by omega⟩

def Args.answer (a : Args) : Fin 32 → Fin 512 → EReal := a.lstm.out (a.net.feature a.rows)

end Cert.Proof.Spec

end
-- ==== Proof.Lit.lean ====
/- The float literals of both programs as extended reals. -/
module

public import proofs.«01_k».proof.Proof.Spec
public import Idealize.ShloMosaic.PureOps.Ideal.Laws

@[expose] public section

noncomputable section

namespace Cert.Proof.Lit

open Cert.Proof.Spec
open Idealize.ShloMosaic

theorem one : Ideal.ofBits .f32 0x3F800000#32 = 1 := by
  simp [Ideal.ofBits, Ideal.ieee, -EReal.coe_mul]; norm_num
theorem negHalf : Ideal.ofBits .f32 0xBF000000#32 = ((-1 / 2 : ℝ) : EReal) := by
  simp [Ideal.ofBits, Ideal.ieee, -EReal.coe_mul]; norm_num
theorem f22 : Ideal.ofBits .f32 0x41B00000#32 = ((22 : ℝ) : EReal) := by
  simp [Ideal.ofBits, Ideal.ieee, -EReal.coe_mul]; norm_num
theorem f64 : Ideal.ofBits .f32 0x42800000#32 = ((64 : ℝ) : EReal) := by
  simp [Ideal.ofBits, Ideal.ieee, -EReal.coe_mul]; norm_num
theorem f65 : Ideal.ofBits .f32 0x42820000#32 = ((65 : ℝ) : EReal) := by
  simp [Ideal.ofBits, Ideal.ieee, -EReal.coe_mul]; norm_num
theorem f129 : Ideal.ofBits .f32 0x43010000#32 = ((129 : ℝ) : EReal) := by
  simp [Ideal.ofBits, Ideal.ieee, -EReal.coe_mul]; norm_num
theorem f257 : Ideal.ofBits .f32 0x43808000#32 = ((257 : ℝ) : EReal) := by
  simp [Ideal.ofBits, Ideal.ieee, -EReal.coe_mul]; norm_num
theorem inv64 : Ideal.ofBits .f32 0x3C800000#32 = ((1 / 64 : ℝ) : EReal) := by
  simp [Ideal.ofBits, Ideal.ieee, -EReal.coe_mul]; norm_num

theorem invSqrt_one : invSqrt 1 = 1 := by
  unfold invSqrt
  rw [negHalf, show (1 : EReal) = ((1 : ℝ) : EReal) from rfl]
  show ((Real.rpow 1 (-1 / 2) : ℝ) : EReal) = ((1 : ℝ) : EReal)
  exact congrArg _ (Real.one_rpow _)

end Cert.Proof.Lit

end
-- ==== Proof.KVal.lean ====
/- The kernel's printed payloads, read at an index over the extended reals, in the words of `Spec`. -/
module

public import proofs.«01_k».proof.Proof.Body
public import proofs.«01_k».proof.Proof.Lit
public import Idealize.ShloMosaic.PureOps.IdealRules
public import Idealize.ShloMosaic.Lib.Pointwise

@[expose] public section

set_option maxRecDepth 16384
set_option maxHeartbeats 800000

noncomputable section

namespace Cert.Proof.KVal

open Cert.Proof.Body Cert.Proof.Spec Cert.KernelIdeal Cert.KernelIdeal.Gen
open Idealize.ShloMosaic

/-- The network's weights as the blocks hold them. -/
def netOf (x2 : Vec Ideal S3x64 .bf16) (x3 : Vec Ideal S1x64 .bf16) (x4 : Vec Ideal S64x128 .bf16) (x5 : Vec Ideal S1x128 .bf16)
    (x6 : Vec Ideal S128x256 .bf16) (x7 : Vec Ideal S1x256 .bf16) (x8 : Vec Ideal S256x512 .bf16) (x9 : Vec Ideal S1x512 .bf16) : Net where
  w1 k d := x2 (ix2 k d)
  b1 d := x3 (ix2 0 d)
  w2 k d := x4 (ix2 k d)
  b2 d := x5 (ix2 0 d)
  w3 k d := x6 (ix2 k d)
  b3 d := x7 (ix2 0 d)
  w4 k d := x8 (ix2 k d)
  b4 d := x9 (ix2 0 d)

theorem pay19_at (x1 x2 x3 x4 x5) (r : Fin 5632) (d : Fin 128) : k0_pay19 (F := Ideal) x1 x2 x3 x4 x5 (ix2 r d)
    = max ((∑ k : Fin 64, max ((∑ l : Fin 3, x1 (ix2 r l) * x2 (ix2 l k)) + x3 (ix2 0 k)) 0 * x4 (ix2 k d)) + x5 (ix2 0 d)) (0 : EReal) := by
  pointwise [k0_pay19, k0_pay13, k0_pay15, k0_pay16, k0_pay17, k0_pay18]

theorem pay26_at (v x6 x7 x8 x9) (r : Fin 5632) (d : Fin 512) : k0_pay26 (F := Ideal) v x6 x7 x8 x9 (ix2 r d)
    = max ((∑ k : Fin 256, max ((∑ l : Fin 128, v (ix2 r l) * x6 (ix2 l k)) + x7 (ix2 0 k)) 0 * x8 (ix2 k d)) + x9 (ix2 0 d)) (0 : EReal) := by
  pointwise [k0_pay26, k0_pay22, k0_pay23, k0_pay24, k0_pay25]

theorem feat_at (x1 x2 x3 x4 x5 x6 x7 x8 x9) (r : Fin 5632) (d : Fin 512) : feat (F := Ideal) x1 x2 x3 x4 x5 x6 x7 x8 x9 (ix2 r d)
    = (netOf x2 x3 x4 x5 x6 x7 x8 x9).row (fun l => x1 (ix2 r l)) d := by
  unfold feat
  rw [pay26_at]
  simp only [pay19_at]
  rfl

/-- A layer at the rows of the first group, over any matrix of weights between them. -/
def graphA {K N : ℕ} (A : Fin 22 → Fin 22 → EReal) (w : Fin K → Fin N → EReal) (b : Fin N → EReal) (M : Fin 22 → Fin K → EReal) (r : Fin 22) (d : Fin N) : EReal :=
  max ((∑ s, A r s * ∑ k, M s k * w k d) + b d) 0

theorem graphA_eq {K N : ℕ} (A : Fin 22 → Fin 22 → EReal) (hA : ∀ r s, A r s = (mult r s : EReal) * norm s * norm r) (w : Fin K → Fin N → EReal)
    (b : Fin N → EReal) : graphA A w b = graph w b := by
  funext M r d
  simp only [graphA, graph, hA, EReal.nsmul_eq_mul, mul_assoc]

theorem pay20_at (x1 x10 x2 x3 x4) (r : Fin 22) (d : Fin 128) : k0_pay20 (F := Ideal) x1 x10 x2 x3 x4 (ix2 r d)
    = ∑ x : Fin 22, x10 (ix2 r x) * ∑ k : Fin 64, max (∑ y : Fin 22, x10 (ix2 x y) * (∑ l : Fin 3, x1 (ix2 (⟨y.val, by omega⟩ : Fin 5632) l) * x2 (ix2 l k)) + x3 (ix2 0 k)) (0 : EReal) * x4 (ix2 k d) := by
  pointwise [k0_pay20, k0_pay13, k0_pay14, k0_pay15, k0_pay16, k0_pay17, k0_pay18]

theorem pay27_at (a v z x6 x7 x8 x9) (r : Fin 22) (d : Fin 512) : k0_pay27 (F := Ideal) a v z x6 x7 x8 x9 (ix2 r d)
    = (∑ x : Fin 22, a (ix2 r x) * ∑ k : Fin 256, max (∑ y : Fin 22, a (ix2 x y) * (∑ l : Fin 128, max (v (ix2 y l) + z (ix2 0 l)) 0 * x6 (ix2 l k)) + x7 (ix2 0 k)) (0 : EReal) * x8 (ix2 k d)) + x9 (ix2 0 d) := by
  pointwise [k0_pay27, k0_pay22, k0_pay23, k0_pay24, k0_pay25]

theorem graphFeat_at (x1 x2 x3 x4 x5 x6 x7 x8 x9 x10) (hA : ∀ r s : Fin 22, x10 (ix2 r s) = (mult r s : EReal) * norm s * norm r) (r : Fin 22) (d : Fin 512) :
    max (graphFeat (F := Ideal) x1 x2 x3 x4 x5 x6 x7 x8 x9 x10 (ix2 r d)) 0
      = (netOf x2 x3 x4 x5 x6 x7 x8 x9).nodes (fun r l => x1 (ix2 (⟨r.val, by omega⟩ : Fin 5632) l)) r d := by
  unfold graphFeat
  rw [pay27_at]
  simp only [pay20_at]
  have e14 : ∀ r s : Fin 22, k0_pay14 (F := Ideal) x10 (ix2 r s) = x10 (ix2 r s) := by intro r s; pointwise [k0_pay14]
  have e21 : ∀ l : Fin 128, k0_pay21 (F := Ideal) x5 (ix2 0 l) = x5 (ix2 0 l) := by intro l; pointwise [k0_pay21, k0_pay18]
  simp only [e14, e21]
  unfold Net.nodes
  rw [← graphA_eq (fun r s => x10 (ix2 r s)) hA, ← graphA_eq (fun r s => x10 (ix2 r s)) hA, ← graphA_eq (fun r s => x10 (ix2 r s)) hA, ← graphA_eq (fun r s => x10 (ix2 r s)) hA]
  rfl

/-- A sum over a pooling row is the sum over one group's nodes. -/
theorem pool_sum (g : Fin 64) (p : Fin 1408 → EReal) (hp : ∀ c : Fin 1408, p c = if c.val / 22 = g.val then 1 else 0) (f : Fin 1408 → EReal) :
    ∑ c, p c * f c = ∑ n : Fin 22, f ⟨22 * g.val + n.val, by omega⟩ := by
  simp only [hp]
  rw [← (finProdFinEquiv (m := 64) (n := 22)).sum_comp, Fintype.sum_prod_type, Finset.sum_eq_single g]
  · refine Finset.sum_congr rfl fun n _ => ?_
    have e : (finProdFinEquiv (g, n) : Fin (64 * 22)) = (⟨22 * g.val + n.val, by omega⟩ : Fin 1408) := Fin.ext (by show n.val + 22 * g.val = 22 * g.val + n.val; omega)
    rw [e, if_pos (show (22 * g.val + n.val) / 22 = g.val by omega), one_mul]
  · intro g' _ hg
    refine Finset.sum_eq_zero fun n _ => ?_
    rw [if_neg, zero_mul]
    intro h
    apply hg
    have h' : (n.val + 22 * g'.val) / 22 = g.val := h
    exact Fin.ext (by omega)
  · intro h; exact absurd (Finset.mem_univ _) h

theorem by22_eq (x : EReal) : x * (Named.named (F := Ideal) (φ := .f32) κ "inv_22" 1027223180#32) = by22 x := by
  rw [by22, Lit.f22, Ideal.div_coe (by norm_num), IdealRules.named_const.ideal_named_scalar _ _ _ _ rfl]

theorem pay28_at (n : Fin 22) (d : Fin 512) : k0_pay28 (F := Ideal) (ix2 n d) = (0 : EReal) := by
  pointwise [k0_pay28]

/-- A group's pooled features: the mean over the graph rows in the first group of point 0, over the group's rows elsewhere. -/
theorem pay29_at (i : ℕ) (hi : i < 9) (h mg pool) (hp : ∀ (g : Fin 64) (c : Fin 1408), pool (ix2 g c) = if c.val / 22 = g.val then (1 : EReal) else 0) (r : Fin 256) (d : Fin 512) :
    k0_pay29 (F := Ideal) (BitVec.ofNat 32 i) h mg k0_pay28 pool (ix2 r d)
      = by22 (∑ n : Fin 22, if 256 * i + r.val = 0 then max (mg (ix2 n d)) 0 else h (ix2 (⟨22 * r.val + n.val, by omega⟩ : Fin 5632) d)) := by
  pointwise [k0_pay29]
  simp only [pay28_at]
  have hs := fun (g : Fin 64) (f : Fin 1408 → EReal) => pool_sum g (fun c => pool (ix2 g c)) (hp g) f
  by_cases h0 : 256 * i + r.val = 0
  · obtain rfl : i = 0 := by omega
    have hr : r.val = 0 := by omega
    simp only [hr]
    rfl
  · simp only [if_neg h0]
    have hc : IntOp.andi (IntOp.cmpi .eq (BitVec.ofNat 32 r.val) 0#32) (Scalar.cmpi .eq (BitVec.ofNat 32 i) 0#32) = 0#1 := by
      have hr := r.isLt
      by_cases hr0 : r.val = 0
      · have : BitVec.ofNat 32 i ≠ 0#32 := by
          intro e; have := congrArg BitVec.toNat e; simp at this; omega
        simp [IntOp.andi, IntOp.cmpi, Scalar.cmpi, beq_eq_false_iff_ne.mpr this]
      · have : BitVec.ofNat 32 r.val ≠ 0#32 := by
          intro e; have := congrArg BitVec.toNat e; simp at this; omega
        simp [IntOp.andi, IntOp.cmpi, Scalar.cmpi, beq_eq_false_iff_ne.mpr this]
    rw [hc]
    refine (by22_eq _).trans (congrArg by22 ?_)
    by_cases h1 : r.val < 64
    · rw [dif_pos h1, hs]
    rw [dif_neg h1]
    by_cases h2 : r.val - 64 < 64
    · rw [dif_pos h2, hs]
      refine Finset.sum_congr rfl fun n _ => congrArg h ?_
      congr 1; exact Fin.ext (by show 1408 + (22 * (r.val - 64) + n.val) = 22 * r.val + n.val; omega)
    rw [dif_neg h2]
    by_cases h3 : r.val - 64 - 64 < 64
    · rw [dif_pos h3, hs]
      refine Finset.sum_congr rfl fun n _ => congrArg h ?_
      congr 1; exact Fin.ext (by show 2816 + (22 * (r.val - 64 - 64) + n.val) = 22 * r.val + n.val; omega)
    rw [dif_neg h3, hs ⟨r.val - 64 - 64 - 64, by omega⟩]
    refine Finset.sum_congr rfl fun n _ => congrArg h ?_
    congr 1; exact Fin.ext (by show 4224 + (22 * (r.val - 64 - 64 - 64) + n.val) = 22 * r.val + n.val; omega)

theorem pay1_at (a0 h mg z pool W b) (r : Fin 4) (t : Fin 64) (d : Fin 1024) : k0_pay1 (F := Ideal) (k0_pay30 a0 h mg z pool W b) (ix3 r t d)
    = (∑ f : Fin 512, k0_pay29 (F := Ideal) a0 h mg z pool (ix2 (⟨r.val * 64 + t.val, by omega⟩ : Fin 256) f) * W (ix2 f d)) + b (ix2 0 d) := by
  pointwise [k0_pay1, k0_pay30]

theorem pay2_at (a0 h mg z pool W b) (r : Fin 4) (t : Fin 64) (d : Fin 1024) : k0_pay2 (F := Ideal) (k0_pay31 a0 h mg z pool W) b (ix3 r t d)
    = (∑ f : Fin 512, k0_pay29 (F := Ideal) a0 h mg z pool (ix2 (⟨r.val * 64 + t.val, by omega⟩ : Fin 256) f) * W (ix2 f d)) + b (ix2 0 d) := by
  pointwise [k0_pay2, k0_pay31]

theorem pay12_at (sf sb w b) (r : Fin 32) (d : Fin 512) : k0_pay12 (F := Ideal) sf sb w b (ix2 r d)
    = ((∑ k : Fin 256, sf (ix2 r k) * w (ix2 (⟨k.val, by omega⟩ : Fin 512) d)) + ∑ k : Fin 256, sb (ix2 r k) * w (ix2 (⟨256 + k.val, by omega⟩ : Fin 512) d))
      * Ideal.ofBits .f32 1015021568#32 + b (ix2 0 d) := by
  pointwise [k0_pay12]

/-! ## The recurrent loop -/

theorem pay5_at (wf h c x) (r : Fin 32) (d : Fin 256) : k0_pay5 (F := Ideal) wf h c x (ix2 r d)
    = cellC (fun j => x (ix3 r (0 : Fin 1) j) + ∑ k : Fin 256, h (ix2 r k) * wf (ix2 k j)) (fun k => c (ix2 r k)) d := by
  pointwise [k0_pay5, k0_pay4]
  rfl

theorem pay6_at (wf h c x) (r : Fin 32) (d : Fin 256) : k0_pay6 (F := Ideal) wf h c x (ix2 r d)
    = cellH (fun j => x (ix3 r (0 : Fin 1) j) + ∑ k : Fin 256, h (ix2 r k) * wf (ix2 k j)) (fun k => c (ix2 r k)) d := by
  pointwise [k0_pay6, k0_pay4]
  rw [pay5_at]
  rfl

theorem pay8_at (wf h c x) (r : Fin 32) (d : Fin 256) : k0_pay8 (F := Ideal) wf h c x (ix2 r d)
    = cellC (fun j => x (ix3 r (0 : Fin 1) j) + ∑ k : Fin 256, h (ix2 r k) * wf (ix2 k j)) (fun k => c (ix2 r k)) d := by
  pointwise [k0_pay8, k0_pay7]
  rfl

theorem pay9_at (wf h c x) (r : Fin 32) (d : Fin 256) : k0_pay9 (F := Ideal) wf h c x (ix2 r d)
    = cellH (fun j => x (ix3 r (0 : Fin 1) j) + ∑ k : Fin 256, h (ix2 r k) * wf (ix2 k j)) (fun k => c (ix2 r k)) d := by
  pointwise [k0_pay9, k0_pay7]
  rw [pay8_at]
  rfl

theorem pay10_at (wf h c s x) (r : Fin 32) (d : Fin 256) : k0_pay10 (F := Ideal) wf h c s x (ix2 r d)
    = s (ix2 r d) + k0_pay6 (F := Ideal) wf h c x (ix2 r d) := by
  pointwise [k0_pay10]

theorem pay11_at (wf h c s x) (r : Fin 32) (d : Fin 256) : k0_pay11 (F := Ideal) wf h c s x (ix2 r d)
    = s (ix2 r d) + k0_pay9 (F := Ideal) wf h c x (ix2 r d) := by
  pointwise [k0_pay11]

theorem pay3_at (r : Fin 32) (d : Fin 256) : k0_pay3 (F := Ideal) (ix2 r d) = (0 : EReal) := by
  pointwise [k0_pay3]

theorem stepRow_at (X : Vec Ideal S32x64x1024 .f32) (t : Fin 64) (r : Fin 32) (j : Fin 1024) : stepRow X t (ix3 r (0 : Fin 1) j) = X (ix3 r t j) := by
  unfold stepRow
  congr 1

/-- The chain's matrix and its gate inputs, as the kernel's buffers hold them. -/
def chainU (w : Vec Ideal S256x1024 .bf16) (j : Fin 1024) (k : Fin 256) : EReal := w (ix2 k j)
def chainX (X : Vec Ideal S32x64x1024 .f32) (r : Fin 32) (t : Fin 64) (j : Fin 1024) : EReal := X (ix3 r t j)

theorem run_at (XF XB wf wb) (r : Fin 32) (n : ℕ) (hn : n ≤ 64) :
    (∀ k, (lstmRun (F := Ideal) XF XB wf wb n).1 (ix2 r k) = (state (chainU wf) (chainX XF r) n).1 k)
    ∧ (∀ k, (lstmRun (F := Ideal) XF XB wf wb n).2.1 (ix2 r k) = (state (chainU wf) (chainX XF r) n).2 k)
    ∧ (∀ k, (lstmRun (F := Ideal) XF XB wf wb n).2.2.1 (ix2 r k) = (state (chainU wb) (fun t => chainX XB r t.rev) n).1 k)
    ∧ (∀ k, (lstmRun (F := Ideal) XF XB wf wb n).2.2.2.1 (ix2 r k) = (state (chainU wb) (fun t => chainX XB r t.rev) n).2 k)
    ∧ (∀ k, (lstmRun (F := Ideal) XF XB wf wb n).2.2.2.2.1 (ix2 r k) = total (chainU wf) (chainX XF r) n k)
    ∧ (∀ k, (lstmRun (F := Ideal) XF XB wf wb n).2.2.2.2.2 (ix2 r k) = total (chainU wb) (fun t => chainX XB r t.rev) n k) := by
  induction n with
  | zero =>
    refine ⟨fun k => ?_, fun k => ?_, fun k => ?_, fun k => ?_, fun k => ?_, fun k => ?_⟩ <;> exact pay3_at r k
  | succ n ih =>
    have h : n < 64 := by omega
    obtain ⟨i1, i2, i3, i4, i5, i6⟩ := ih (by omega)
    rw [lstmRun, dif_pos h]
    have eF : (fun j => stepRow XF ⟨n, h⟩ (ix3 r (0 : Fin 1) j) + ∑ k : Fin 256, (lstmRun (F := Ideal) XF XB wf wb n).1 (ix2 r k) * wf (ix2 k j))
        = gates (chainU wf) (chainX XF r ⟨n, h⟩) (state (chainU wf) (chainX XF r) n).1 := by
      funext j; simp only [stepRow_at, i1]; rfl
    have eB : (fun j => stepRow XB (Fin.rev ⟨n, h⟩) (ix3 r (0 : Fin 1) j) + ∑ k : Fin 256, (lstmRun (F := Ideal) XF XB wf wb n).2.2.1 (ix2 r k) * wb (ix2 k j))
        = gates (chainU wb) (chainX XB r (Fin.rev ⟨n, h⟩)) (state (chainU wb) (fun t => chainX XB r t.rev) n).1 := by
      funext j; simp only [stepRow_at, i3]; rfl
    have cF : (fun k => (lstmRun (F := Ideal) XF XB wf wb n).2.1 (ix2 r k)) = (state (chainU wf) (chainX XF r) n).2 := funext i2
    have cB : (fun k => (lstmRun (F := Ideal) XF XB wf wb n).2.2.2.1 (ix2 r k)) = (state (chainU wb) (fun t => chainX XB r t.rev) n).2 := funext i4
    refine ⟨fun k => ?_, fun k => ?_, fun k => ?_, fun k => ?_, fun k => ?_, fun k => ?_⟩
    · rw [state_succ _ _ h]; exact (pay6_at _ _ _ _ r k).trans (by rw [eF, cF])
    · rw [state_succ _ _ h]; exact (pay5_at _ _ _ _ r k).trans (by rw [eF, cF])
    · rw [state_succ _ _ h]; exact (pay9_at _ _ _ _ r k).trans (by rw [eB, cB])
    · rw [state_succ _ _ h]; exact (pay8_at _ _ _ _ r k).trans (by rw [eB, cB])
    · refine (pay10_at _ _ _ _ _ r k).trans ?_
      rw [i5, pay6_at, eF, cF, total, total, Finset.sum_range_succ, state_succ _ _ h]
    · refine (pay11_at _ _ _ _ _ r k).trans ?_
      rw [i6, pay9_at, eB, cB, total, total, Finset.sum_range_succ, state_succ _ _ h]

theorem outBlk_at (XF XB wf wb wo bo) (r : Fin 32) (d : Fin 512) : outBlk (F := Ideal) XF XB wf wb wo bo (ix2 r d)
    = ((∑ k : Fin 256, total (chainU wf) (chainX XF r) 64 k * wo (ix2 (⟨k.val, by omega⟩ : Fin 512) d))
        + ∑ k : Fin 256, total (chainU wb) (fun t => chainX XB r t.rev) 64 k * wo (ix2 (⟨256 + k.val, by omega⟩ : Fin 512) d))
      * ((1 / 64 : ℝ) : EReal) + bo (ix2 0 d) := by
  unfold outBlk
  obtain ⟨-, -, -, -, h5, h6⟩ := run_at XF XB wf wb r 64 le_rfl
  rw [pay12_at, Lit.inv64]
  simp only [h5, h6]

/-! ## The gate tables' rows -/

/-- One row of a gate table from the blocks: the group's feature times the gate's matrix, plus the bias. -/
theorem gateF_at (i : ℕ) (hi : i < 9) (x1 x2 x3 x4 x5 x6 x7 x8 x9 x10 x11 W b)
    (hA : ∀ r s : Fin 22, x10 (ix2 r s) = (mult r s : EReal) * norm s * norm r)
    (hp : ∀ (g : Fin 64) (c : Fin 1408), x11 (ix2 g c) = if c.val / 22 = g.val then (1 : EReal) else 0)
    (r : Fin 4) (t : Fin 64) (j : Fin 1024) :
    gateF (F := Ideal) (BitVec.ofNat 32 i) x1 x2 x3 x4 x5 x6 x7 x8 x9 x10 x11 W b (ix3 r t j)
      = (∑ f : Fin 512, by22 (∑ n : Fin 22, if 256 * i + (r.val * 64 + t.val) = 0
          then (netOf x2 x3 x4 x5 x6 x7 x8 x9).nodes (fun n l => x1 (ix2 (⟨n.val, by omega⟩ : Fin 5632) l)) n f
          else (netOf x2 x3 x4 x5 x6 x7 x8 x9).row (fun l => x1 (ix2 (⟨22 * (r.val * 64 + t.val) + n.val, by omega⟩ : Fin 5632) l)) f) * W (ix2 f j))
        + b (ix2 0 j) := by
  unfold gateF
  rw [pay1_at]
  simp only [pay29_at i hi _ _ _ hp, graphFeat_at _ _ _ _ _ _ _ _ _ _ hA, feat_at]

theorem gateB_at (i : ℕ) (hi : i < 9) (x1 x2 x3 x4 x5 x6 x7 x8 x9 x10 x11 W b)
    (hA : ∀ r s : Fin 22, x10 (ix2 r s) = (mult r s : EReal) * norm s * norm r)
    (hp : ∀ (g : Fin 64) (c : Fin 1408), x11 (ix2 g c) = if c.val / 22 = g.val then (1 : EReal) else 0)
    (r : Fin 4) (t : Fin 64) (j : Fin 1024) :
    gateB (F := Ideal) (BitVec.ofNat 32 i) x1 x2 x3 x4 x5 x6 x7 x8 x9 x10 x11 W b (ix3 r t j)
      = (∑ f : Fin 512, by22 (∑ n : Fin 22, if 256 * i + (r.val * 64 + t.val) = 0
          then (netOf x2 x3 x4 x5 x6 x7 x8 x9).nodes (fun n l => x1 (ix2 (⟨n.val, by omega⟩ : Fin 5632) l)) n f
          else (netOf x2 x3 x4 x5 x6 x7 x8 x9).row (fun l => x1 (ix2 (⟨22 * (r.val * 64 + t.val) + n.val, by omega⟩ : Fin 5632) l)) f) * W (ix2 f j))
        + b (ix2 0 j) := by
  unfold gateB
  rw [pay2_at]
  simp only [pay29_at i hi _ _ _ hp, graphFeat_at _ _ _ _ _ _ _ _ _ _ hA, feat_at]

end Cert.Proof.KVal

end
-- ==== Proof.PoolRow.lean ====
/- The pooling table of the kernel, row by row: what is to be checked of one row of 1408 entries. -/
module

public import proofs.«01_k».proof.KernelIdeal

@[expose] public section

namespace Cert.Proof.PoolRow

open Cert.KernelIdeal

/-- `p` holds of every number below `n`. -/
def allBelow (p : Nat → Bool) (n : Nat) : Bool := Nat.rec true (fun i ih => (p i).and ih) n

theorem allBelow_spec (p : Nat → Bool) : ∀ n, allBelow p n = true → ∀ i < n, p i = true
  | 0, _, i, h => absurd h (Nat.not_lt_zero i)
  | n + 1, e, i, h => by
    have e' : ((p n).and (allBelow p n)) = true := e
    rw [Bool.and_eq_true] at e'
    rcases Nat.lt_succ_iff_lt_or_eq.mp h with hi | rfl
    · exact allBelow_spec p n e'.2 i hi
    · exact e'.1

/-- Row `g` of the table holds the word of one at the columns `22 g` to `22 g + 21`, and zero elsewhere. -/
@[irreducible] noncomputable def rowOk (g : Nat) : Bool :=
  allBelow (fun c => Nat.beq (lit2t (1408 * g + c)).toNat (bif Nat.beq (c / 22) g then 0x3F800000 else 0)) 1408

theorem rowOk_spec {g : Nat} (h : rowOk g = true) (c : Nat) (hc : c < 1408) :
    lit2t (1408 * g + c) = if c / 22 = g then 0x3F800000#32 else 0#32 := by
  unfold rowOk at h
  have e := Nat.eq_of_beq_eq_true (allBelow_spec _ _ h c hc)
  apply BitVec.eq_of_toNat_eq
  rw [e]
  by_cases hg : c / 22 = g
  · rw [if_pos hg, hg, Nat.beq_refl]; rfl
  · rw [if_neg hg, Bool.eq_false_iff.mpr (fun k => hg (Nat.eq_of_beq_eq_true k))]; rfl

end Cert.Proof.PoolRow

end
-- ==== Proof.PoolLo.lean ====
/- The first 32 rows of the pooling table, each checked entry by entry. -/
module

public import proofs.«01_k».proof.Proof.PoolRow
public import Mathlib.Tactic.FinCases

@[expose] public section

set_option maxRecDepth 100000
set_option maxHeartbeats 4000000

namespace Cert.Proof.PoolLo

open Cert.Proof.PoolRow

theorem rows : ∀ k : Fin 32, rowOk (0 + k.val) = true := by
  intro k
  fin_cases k
  all_goals decide +kernel

end Cert.Proof.PoolLo

end
-- ==== Proof.PoolHi.lean ====
/- The last 32 rows of the pooling table, each checked entry by entry. -/
module

public import proofs.«01_k».proof.Proof.PoolRow
public import Mathlib.Tactic.FinCases

@[expose] public section

set_option maxRecDepth 100000
set_option maxHeartbeats 4000000

namespace Cert.Proof.PoolHi

open Cert.Proof.PoolRow

theorem rows : ∀ k : Fin 32, rowOk (32 + k.val) = true := by
  intro k
  fin_cases k
  all_goals decide +kernel

end Cert.Proof.PoolHi

end
-- ==== Proof.PoolLit.lean ====
/- The pooling table of the kernel: entry `(g, c)` of its 64 rows of 1408 is the word of one when `c` lies in the `g`-th run
   of 22 columns, and zero otherwise. -/
module

public import proofs.«01_k».proof.Proof.PoolLo
public import proofs.«01_k».proof.Proof.PoolHi

@[expose] public section

namespace Cert.Proof.PoolLit

open Cert.KernelIdeal Cert.Proof.PoolRow

theorem rows (g : Fin 64) : rowOk g.val = true := by
  by_cases h : g.val < 32
  · have e := PoolLo.rows ⟨g.val, h⟩
    rwa [Nat.zero_add] at e
  · have e := PoolHi.rows ⟨g.val - 32, by omega⟩
    have q : 32 + (g.val - 32) = g.val := by omega
    exact q ▸ e

theorem pool_lit (g : Fin 64) (c : Fin 1408) (h : 1408 * g.val + c.val < 90112) :
    lit2 ⟨1408 * g.val + c.val, h⟩ = if c.val / 22 = g.val then 0x3F800000#32 else 0#32 :=
  rowOk_spec (rows g) c.val c.isLt

end Cert.Proof.PoolLit

end
-- ==== Proof.KHost.lean ====
/- The arrays the region reads, at an index, as the launch's arguments have them; the blocks of each window; and the block the
   last point stores, which is the network's answer. -/
module

public import proofs.«01_k».proof.Proof.Tables
public import proofs.«01_k».proof.Proof.KVal
public import proofs.«01_k».proof.Proof.PoolLit
public import Idealize.ShloMosaic.Lib.StableHlo.ReadAt
public import Idealize.ShloMosaic.Lib.Pipeline.Value

@[expose] public section

set_option maxRecDepth 16384
set_option maxHeartbeats 800000

noncomputable section

namespace Cert.Proof.KHost

open Cert.Proof.Spec Cert.Proof.Body Cert.Proof.Tables Cert.Proof.KVal Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

/-- The launch's arguments. -/
def args : Args where
  net :=
    { w1 := fun k d => m (c.tc.loc main_arg1) (ix2 k d)
      b1 := fun d => m (c.tc.loc main_arg2) (ix1 d)
      w2 := fun k d => m (c.tc.loc main_arg3) (ix2 k d)
      b2 := fun d => m (c.tc.loc main_arg4) (ix1 d)
      w3 := fun k d => m (c.tc.loc main_arg5) (ix2 k d)
      b3 := fun d => m (c.tc.loc main_arg6) (ix1 d)
      w4 := fun k d => m (c.tc.loc main_arg7) (ix2 k d)
      b4 := fun d => m (c.tc.loc main_arg8) (ix1 d) }
  lstm :=
    { wf := fun j f => m (c.tc.loc main_arg9) (ix2 j f)
      uf := fun j k => m (c.tc.loc main_arg10) (ix2 j k)
      bxf := fun j => m (c.tc.loc main_arg11) (ix1 j)
      bhf := fun j => m (c.tc.loc main_arg12) (ix1 j)
      wb := fun j f => m (c.tc.loc main_arg13) (ix2 j f)
      ub := fun j k => m (c.tc.loc main_arg14) (ix2 j k)
      bxb := fun j => m (c.tc.loc main_arg15) (ix1 j)
      bhb := fun j => m (c.tc.loc main_arg16) (ix1 j)
      wo := fun k d => m (c.tc.loc main_arg17) (ix2 k d)
      bo := fun d => m (c.tc.loc main_arg18) (ix1 d) }
  x := fun b t n l => m (c.tc.loc main_arg0) (ix4 b t n l)

/-! ## The blocks -/

theorem index_zero : ∀ (t : Fin cfg0.N) (w : Fin cfg0.W), w.val ≠ 0 → ∀ a, (cfg0.win w).index t a = 0 := by decide +kernel
theorem index0 : ∀ t : Fin cfg0.N, t.val < 8 → ∀ a, (cfg0.win 0).index t a = (![t.val, 0] : Fin 2 → ℕ) a := by decide +kernel

theorem blk0 (t : Fin cfg0.N) (ht : t.val < 8) (r : Fin 5632) (l : Fin 3) :
    iblk m c 0 t (ix2 r l) = V m c main_v2 (ix2 (⟨5632 * t.val + r.val, by omega⟩ : Fin 45056) l) := by
  refine congrArg (V m c main_v2) (funext fun a => Fin.ext ?_)
  refine ((cfg0.win 0).rect_emb_val t _ a).trans ?_
  rw [index0 t ht]
  fin_cases a
  · show t.val * 5632 + r.val = 5632 * t.val + r.val; omega
  · show 0 * 3 + l.val = l.val; omega

/-! Every other window's block is its whole array. -/

theorem blk1 (t : Fin cfg0.N) : iblk m c 1 t = V m c main_v11 :=
  funext fun y => congrArg (V m c main_v11) (funext fun x => Fin.ext ((cfg0.win 1).rect_emb_val_of_index_zero t x (index_zero t 1 (by decide) x) y))
theorem blk2 (t : Fin cfg0.N) : iblk m c 2 t = V m c main_v13 :=
  funext fun y => congrArg (V m c main_v13) (funext fun x => Fin.ext ((cfg0.win 2).rect_emb_val_of_index_zero t x (index_zero t 2 (by decide) x) y))
theorem blk3 (t : Fin cfg0.N) : iblk m c 3 t = V m c main_v14 :=
  funext fun y => congrArg (V m c main_v14) (funext fun x => Fin.ext ((cfg0.win 3).rect_emb_val_of_index_zero t x (index_zero t 3 (by decide) x) y))
theorem blk4 (t : Fin cfg0.N) : iblk m c 4 t = V m c main_v16 :=
  funext fun y => congrArg (V m c main_v16) (funext fun x => Fin.ext ((cfg0.win 4).rect_emb_val_of_index_zero t x (index_zero t 4 (by decide) x) y))
theorem blk5 (t : Fin cfg0.N) : iblk m c 5 t = V m c main_v17 :=
  funext fun y => congrArg (V m c main_v17) (funext fun x => Fin.ext ((cfg0.win 5).rect_emb_val_of_index_zero t x (index_zero t 5 (by decide) x) y))
theorem blk6 (t : Fin cfg0.N) : iblk m c 6 t = V m c main_v19 :=
  funext fun y => congrArg (V m c main_v19) (funext fun x => Fin.ext ((cfg0.win 6).rect_emb_val_of_index_zero t x (index_zero t 6 (by decide) x) y))
theorem blk7 (t : Fin cfg0.N) : iblk m c 7 t = V m c main_v20 :=
  funext fun y => congrArg (V m c main_v20) (funext fun x => Fin.ext ((cfg0.win 7).rect_emb_val_of_index_zero t x (index_zero t 7 (by decide) x) y))
theorem blk8 (t : Fin cfg0.N) : iblk m c 8 t = V m c main_v22 :=
  funext fun y => congrArg (V m c main_v22) (funext fun x => Fin.ext ((cfg0.win 8).rect_emb_val_of_index_zero t x (index_zero t 8 (by decide) x) y))
theorem blk9 (t : Fin cfg0.N) : iblk m c 9 t = V m c main_v10 :=
  funext fun y => congrArg (V m c main_v10) (funext fun x => Fin.ext ((cfg0.win 9).rect_emb_val_of_index_zero t x (index_zero t 9 (by decide) x) y))
theorem blk10 (t : Fin cfg0.N) : iblk m c 10 t = V m c main_v23 :=
  funext fun y => congrArg (V m c main_v23) (funext fun x => Fin.ext ((cfg0.win 10).rect_emb_val_of_index_zero t x (index_zero t 10 (by decide) x) y))
theorem blk11 (t : Fin cfg0.N) : iblk m c 11 t = V m c main_v25 :=
  funext fun y => congrArg (V m c main_v25) (funext fun x => Fin.ext ((cfg0.win 11).rect_emb_val_of_index_zero t x (index_zero t 11 (by decide) x) y))
theorem blk12 (t : Fin cfg0.N) : iblk m c 12 t = V m c main_v27 :=
  funext fun y => congrArg (V m c main_v27) (funext fun x => Fin.ext ((cfg0.win 12).rect_emb_val_of_index_zero t x (index_zero t 12 (by decide) x) y))
theorem blk13 (t : Fin cfg0.N) : iblk m c 13 t = V m c main_v29 :=
  funext fun y => congrArg (V m c main_v29) (funext fun x => Fin.ext ((cfg0.win 13).rect_emb_val_of_index_zero t x (index_zero t 13 (by decide) x) y))
theorem blk14 (t : Fin cfg0.N) : iblk m c 14 t = V m c main_v31 :=
  funext fun y => congrArg (V m c main_v31) (funext fun x => Fin.ext ((cfg0.win 14).rect_emb_val_of_index_zero t x (index_zero t 14 (by decide) x) y))
theorem blk15 (t : Fin cfg0.N) : iblk m c 15 t = V m c main_v33 :=
  funext fun y => congrArg (V m c main_v33) (funext fun x => Fin.ext ((cfg0.win 15).rect_emb_val_of_index_zero t x (index_zero t 15 (by decide) x) y))
theorem blk16 (t : Fin cfg0.N) : iblk m c 16 t = V m c main_v35 :=
  funext fun y => congrArg (V m c main_v35) (funext fun x => Fin.ext ((cfg0.win 16).rect_emb_val_of_index_zero t x (index_zero t 16 (by decide) x) y))
theorem blk17 (t : Fin cfg0.N) : iblk m c 17 t = V m c main_arg17 :=
  funext fun y => congrArg (V m c main_arg17) (funext fun x => Fin.ext ((cfg0.win 17).rect_emb_val_of_index_zero t x (index_zero t 17 (by decide) x) y))
theorem blk18 (t : Fin cfg0.N) : iblk m c 18 t = V m c main_v36 :=
  funext fun y => congrArg (V m c main_v36) (funext fun x => Fin.ext ((cfg0.win 18).rect_emb_val_of_index_zero t x (index_zero t 18 (by decide) x) y))

/-! ## The arrays -/

theorem v2 (r : Fin 45056) (l : Fin 3) : V m c main_v2 (ix2 r l) = (args m c).rows r l := by
  unfold V
  after_reads_at
  rfl
theorem v11 (k : Fin 3) (d : Fin 64) : V m c main_v11 (ix2 k d) = m (c.tc.loc main_arg1) (ix2 k d) := by
  unfold V
  after_reads_at
theorem v14 (k : Fin 64) (d : Fin 128) : V m c main_v14 (ix2 k d) = m (c.tc.loc main_arg3) (ix2 k d) := by
  unfold V
  after_reads_at
theorem v17 (k : Fin 128) (d : Fin 256) : V m c main_v17 (ix2 k d) = m (c.tc.loc main_arg5) (ix2 k d) := by
  unfold V
  after_reads_at
theorem v20 (k : Fin 256) (d : Fin 512) : V m c main_v20 (ix2 k d) = m (c.tc.loc main_arg7) (ix2 k d) := by
  unfold V
  after_reads_at
theorem v13 (d : Fin 64) : V m c main_v13 (ix2 0 d) = m (c.tc.loc main_arg2) (ix1 d) := by
  unfold V
  after_reads_at
theorem v16 (d : Fin 128) : V m c main_v16 (ix2 0 d) = m (c.tc.loc main_arg4) (ix1 d) := by
  unfold V
  after_reads_at
theorem v19 (d : Fin 256) : V m c main_v19 (ix2 0 d) = m (c.tc.loc main_arg6) (ix1 d) := by
  unfold V
  after_reads_at
theorem v22 (d : Fin 512) : V m c main_v22 (ix2 0 d) = m (c.tc.loc main_arg8) (ix1 d) := by
  unfold V
  after_reads_at
theorem v36 (d : Fin 512) : V m c main_v36 (ix2 0 d) = m (c.tc.loc main_arg18) (ix1 d) := by
  unfold V
  after_reads_at
theorem v25 (k : Fin 512) (d : Fin 1024) : V m c main_v25 (ix2 k d) = m (c.tc.loc main_arg9) (ix2 d k) := by
  unfold V
  after_reads_at
theorem v29 (k : Fin 512) (d : Fin 1024) : V m c main_v29 (ix2 k d) = m (c.tc.loc main_arg13) (ix2 d k) := by
  unfold V
  after_reads_at
theorem v33 (k : Fin 256) (d : Fin 1024) : V m c main_v33 (ix2 k d) = m (c.tc.loc main_arg10) (ix2 d k) := by
  unfold V
  after_reads_at
theorem v35 (k : Fin 256) (d : Fin 1024) : V m c main_v35 (ix2 k d) = m (c.tc.loc main_arg14) (ix2 d k) := by
  unfold V
  after_reads_at
theorem v27 (d : Fin 1024) : V m c main_v27 (ix2 0 d) = (args m c).lstm.bxf d + (args m c).lstm.bhf d := by
  unfold V
  after_reads_at
  rfl
theorem v31 (d : Fin 1024) : V m c main_v31 (ix2 0 d) = (args m c).lstm.bxb d + (args m c).lstm.bhb d := by
  unfold V
  after_reads_at
  rfl

/-! The tables of literals: degrees, edge counts and the pooling table. -/

theorem deg_bits : ∀ r : Fin 22, (deg r = 65 ∧ lit0 (S22.rowMajor (ix1 r)) = 0x42820000#32)
    ∨ (deg r = 129 ∧ lit0 (S22.rowMajor (ix1 r)) = 0x43010000#32) ∨ (deg r = 257 ∧ lit0 (S22.rowMajor (ix1 r)) = 0x43808000#32) := by
  decide +kernel
theorem mult_bits : ∀ r s : Fin 22, (mult r s = 0 ∧ lit1 (S22x22.rowMajor (ix2 r s)) = 0#32)
    ∨ (mult r s = 64 ∧ lit1 (S22x22.rowMajor (ix2 r s)) = 0x42800000#32) ∨ (mult r s = 65 ∧ lit1 (S22x22.rowMajor (ix2 r s)) = 0x42820000#32) := by
  decide +kernel

theorem deg_val (r : Fin 22) : Ideal.ofBits .f32 (lit0 (S22.rowMajor (ix1 r))) = ((deg r : ℕ) : EReal) := by
  rcases deg_bits r with ⟨h, e⟩ | ⟨h, e⟩ | ⟨h, e⟩ <;> rw [h, e]
  · rw [Lit.f65]; rfl
  · rw [Lit.f129]; rfl
  · rw [Lit.f257]; rfl
theorem mult_val (r s : Fin 22) : Ideal.ofBits .f32 (lit1 (S22x22.rowMajor (ix2 r s))) = ((mult r s : ℕ) : EReal) := by
  rcases mult_bits r s with ⟨h, e⟩ | ⟨h, e⟩ | ⟨h, e⟩ <;> rw [h, e]
  · rw [Ideal.ofBits_zero_f32, Nat.cast_zero]
  · rw [Lit.f64]; rfl
  · rw [Lit.f65]; rfl

theorem v10 (r s : Fin 22) : V m c main_v10 (ix2 r s) = ((mult r s : ℕ) : EReal) * norm s * norm r := by
  unfold V
  after_reads_at
  rw [mult_val, deg_val, deg_val]
  rfl
theorem v23 (g : Fin 64) (k : Fin 1408) : V m c main_v23 (ix2 g k) = if k.val / 22 = g.val then (1 : EReal) else 0 := by
  unfold V
  after_reads_at
  have e : S64x1408.rowMajor (ix2 g k) = (⟨1408 * g.val + k.val, by omega⟩ : Fin 90112) := by
    apply Fin.ext
    rw [Shape.rowMajor_val_two]
    show g.val * 1408 + k.val = 1408 * g.val + k.val
    omega
  rw [e, PoolLit.pool_lit]
  split
  · rw [Lit.one]
  · rw [Ideal.ofBits_zero_f32]

/-! ## The network's answer -/

theorem net_eq (t : Fin cfg0.N) : netOf (iblk m c 1 t) (iblk m c 2 t) (iblk m c 3 t) (iblk m c 4 t) (iblk m c 5 t) (iblk m c 6 t) (iblk m c 7 t) (iblk m c 8 t) = (args m c).net := by
  rw [blk1, blk2, blk3, blk4, blk5, blk6, blk7, blk8]
  unfold netOf args
  simp only [Net.mk.injEq]
  exact ⟨funext₂ (v11 m c), funext (v13 m c), funext₂ (v14 m c), funext (v16 m c), funext₂ (v17 m c), funext (v19 m c), funext₂ (v20 m c), funext (v22 m c)⟩

theorem group_eq (b : Fin 32) (t : Fin 64) : (⟨b.val / 4 * 256 + (b.val % 4 * 64 + t.val), by omega⟩ : Fin 2048) = groupOf b t :=
  Fin.ext (by show b.val / 4 * 256 + (b.val % 4 * 64 + t.val) = 64 * b.val + t.val; omega)

/-- A group's feature, from the block of the point that pools it. -/
theorem feature_eq (p : Fin cfg0.N) (b : Fin 32) (hp : p.val = b.val / 4) (t : Fin 64) (f : Fin 512) :
    by22 (∑ n : Fin 22, if 256 * p.val + (b.val % 4 * 64 + t.val) = 0
          then (args m c).net.nodes (fun n l => iblk m c 0 p (ix2 (⟨n.val, by omega⟩ : Fin 5632) l)) n f
          else (args m c).net.row (fun l => iblk m c 0 p (ix2 (⟨22 * (b.val % 4 * 64 + t.val) + n.val, by omega⟩ : Fin 5632) l)) f)
      = (args m c).net.feature (args m c).rows (groupOf b t) f := by
  unfold Net.feature
  congr 1
  have hg : (groupOf b t).val = 64 * b.val + t.val := rfl
  refine Finset.sum_congr rfl fun n _ => ?_
  have h8 : p.val < 8 := by omega
  by_cases h : 256 * p.val + (b.val % 4 * 64 + t.val) = 0
  · rw [if_pos h, if_pos (by omega)]
    congr 1
    funext r l
    rw [blk0 m c p h8, v2]
    exact congrArg (fun q => (args m c).rows q l) (Fin.ext (by show 5632 * p.val + r.val = 22 * (64 * b.val + t.val) + r.val; omega))
  · rw [if_neg h, if_neg (by omega)]
    congr 1
    funext l
    rw [blk0 m c p h8, v2]
    exact congrArg (fun q => (args m c).rows q l) (Fin.ext (by show 5632 * p.val + (22 * (b.val % 4 * 64 + t.val) + n.val) = 22 * (64 * b.val + t.val) + n.val; omega))

theorem tabF_at (b : Fin 32) (t : Fin 64) (j : Fin 1024) : tabF m c (ix3 b t j) = (args m c).lstm.gxf ((args m c).net.feature (args m c).rows) b t j := by
  have hb : (ptOf (ix3 b t j)).val = b.val / 4 := rfl
  have hl : locOf (ix3 b t j) = ix3 (⟨b.val % 4, by omega⟩ : Fin 4) t j := by
    unfold locOf; rw [ix3_eq_valueIdx]; rfl
  unfold tabF rowsF
  rw [hl, coords_eq, gateF_at _ (by omega) _ _ _ _ _ _ _ _ _ _ _ _ _ (by rw [blk9]; exact v10 m c) (by rw [blk10]; exact v23 m c), net_eq]
  rw [blk11, blk12, v27]
  exact congrArg₂ (· + ·) (Finset.sum_congr rfl fun f _ => congrArg₂ (· * ·) (feature_eq m c _ b hb t f) (v25 m c f j)) rfl

theorem tabB_at (b : Fin 32) (t : Fin 64) (j : Fin 1024) : tabB m c (ix3 b t.rev j) = (args m c).lstm.gxb ((args m c).net.feature (args m c).rows) b t j := by
  have hb : (ptOf (ix3 b t.rev j)).val = b.val / 4 := rfl
  have hl : locOf (ix3 b t.rev j) = ix3 (⟨b.val % 4, by omega⟩ : Fin 4) t.rev j := by
    unfold locOf; rw [ix3_eq_valueIdx]; rfl
  unfold tabB rowsB
  rw [hl, coords_eq, gateB_at _ (by omega) _ _ _ _ _ _ _ _ _ _ _ _ _ (by rw [blk9]; exact v10 m c) (by rw [blk10]; exact v23 m c), net_eq]
  rw [blk13, blk14, v31]
  exact congrArg₂ (· + ·) (Finset.sum_congr rfl fun f _ => congrArg₂ (· * ·) (feature_eq m c _ b hb t.rev f) (v29 m c f j)) rfl

/-- What the last point stores is the network's answer. -/
theorem result_at (t : Fin cfg0.N) (b : Fin 32) (d : Fin 512) : result m c t (ix2 b d) = (args m c).answer b d := by
  unfold result
  rw [outBlk_at, blk15, blk16, blk17, blk18, v36]
  have eUf : chainU (V m c main_v33) = (args m c).lstm.uf := funext₂ fun j k => v33 m c k j
  have eUb : chainU (V m c main_v35) = (args m c).lstm.ub := funext₂ fun j k => v35 m c k j
  have eXf : chainX (tabF m c) b = (args m c).lstm.gxf ((args m c).net.feature (args m c).rows) b := funext₂ fun t j => tabF_at m c b t j
  have eXb : (fun t => chainX (tabB m c) b t.rev) = (args m c).lstm.gxb ((args m c).net.feature (args m c).rows) b := funext₂ fun t j => tabB_at m c b t j
  have e17 : V m c main_arg17 = m (c.tc.loc main_arg17) := V_main_arg17 m c
  rw [eUf, eUb, eXf, eXb, e17]
  rfl

end Cert.Proof.KHost

end
-- ==== Proof.KRun.lean ====
/- The idealized kernel's run ends with the network's answer in its result array and its arguments unchanged. -/
module

public import proofs.«01_k».proof.Proof.KHost
public import Idealize.ShloMosaic.Lib.Claim

@[expose] public section

set_option maxRecDepth 16384
set_option maxHeartbeats 800000

noncomputable section

namespace Cert.Proof.KRun

open Cert.Proof.Spec Cert.Proof.Tables Cert.KernelIdeal Cert.KernelIdeal.Gen
open Idealize.ShloMosaic Idealize.ShloMosaic.TcCoe Idealize.SL Idealize.SL.Sem
open Idealize.ShloMosaic.Pipeline (Dat Cfg Window)

variable (m : (ℓ : Loc nD τ sig) → Buf (Elt Ideal) ℓ) (ρ : Dev nD → PrngReg)

/-- The answer to the launch's arguments, as the contents of the result array. -/
def answer (c : Dev nD) : FVec Ideal S32x512 .f32 := fun y => (KHost.args m c).answer (y 0) (y 1)

theorem result_eq (c : Dev nD) (t : Fin cfg0.N) : result m c t = answer m c := by
  funext y
  obtain ⟨b, d, rfl⟩ : ∃ (b : Fin 32) (d : Fin 512), y = ix2 b d := ⟨y 0, y 1, by funext a; match a with | 0 => rfl | 1 => rfl⟩
  exact KHost.result_at m c t b d

theorem emb19 (t : Fin cfg0.N) (y : S32x512.Idx) : ((cfg0.win 19).blk t).view.emb y = y :=
  funext fun x => Fin.ext ((cfg0.win 19).rect_emb_val_of_index_zero t x (KHost.index_zero t 19 (by decide) x) y)

/-- The one write-back of the result's window covers the whole array. -/
theorem array_eq (c : Dev nD) : (dats m 0 c).arrAt 19 cfg0.N = answer m c := by
  refine Dat.arrAt_eq_of_cover (dats m 0 c) 19 (answer m c) (fun t _ => ?_) (fun i => ⟨⟨8, by decide⟩, (flush0_19 _).mpr rfl, ?_⟩)
  · funext y
    refine (congrFun ((after_19 m c t).trans (result_eq m c t)) y).trans ?_
    exact (congrArg (answer m c) (emb19 t y)).symm
  · have h := ((cfg0.win 19).blk ⟨8, by decide⟩).view.emb_mem_set i
    rwa [emb19] at h

theorem run : θ_run defs (onTc (τ := τ) (main (F := Ideal))) ⟨m, fun _ => 0, ρ⟩ (fun r => ∀ c : Dev nD,
      r.2.mem ((c.tc : Thread nD τ).loc main_v37) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  have h37 : θ_run defs (onTc (τ := τ) (main (F := Ideal))) ⟨m, fun _ => 0, ρ⟩ (fun r => ∀ c : Dev nD,
      r.2.mem ((c.tc : Thread nD τ).loc main_v37) = answer m c) :=
    (θ_run defs _ _).mono (fun r h c => ((h c).1 19).trans (array_eq m c)) (run_main m ρ)
  exact (θ_run defs _ _).mono (fun r h c => ⟨h.1 c, h.2 c⟩) (θ_run_and h37 (unchanged m ρ))

end Cert.Proof.KRun

end
-- ==== Proof.RGraph.lean ====
/- The reference's edge list: 64 copies of the first group's 43 edges, then a self loop at each of the 45056 rows. Sums over the
   edges that end at a row, and where the scatters and the gathers of the reference land. -/
module

public import Idealize.ShloMosaic.Lib.Routing.OpsPair
public import Idealize.ShloMosaic.Lib.Routing.OpsSet
public import proofs.«01_k».proof.Proof.Spec
public import proofs.«01_k».proof.Proof.Lit

@[expose] public section

noncomputable section

namespace Cert.Proof.RGraph

open Idealize.ShloMosaic Idealize.ShloMosaic.Routing Idealize.ShloMosaic.ValueIdx Cert.Proof.Spec

/-- Node `r` of the first group as a row. -/
def low (r : Fin 22) : Fin 45056 := ⟨r.val, by omega⟩

/-- Where edge `e` of the whole list starts and ends. -/
def es (e : Fin 47808) : Fin 45056 :=
  if h : e.val < 2752 then low (src ⟨e.val % 43, Nat.mod_lt _ (by decide)⟩) else ⟨e.val - 2752, by omega⟩
def ed (e : Fin 47808) : Fin 45056 :=
  if h : e.val < 2752 then low (dst ⟨e.val % 43, Nat.mod_lt _ (by decide)⟩) else ⟨e.val - 2752, by omega⟩

/-! ## Sums over the edges -/

theorem low_inj {a b : Fin 22} : low a = low b ↔ a = b :=
  ⟨fun h => Fin.ext (by have := congrArg Fin.val h; exact this), fun h => by rw [h]⟩

/-- A sum over the whole list: the copies, then the self loops. -/
theorem sum_edges {M : Type} [AddCommMonoid M] (F : Fin 45056 → Fin 45056 → M) :
    ∑ e, F (es e) (ed e) = 64 • (∑ k, F (low (src k)) (low (dst k))) + ∑ r, F r r := by
  rw [← Equiv.sum_comp (finCongr (show 2752 + 45056 = 47808 by norm_num)) (fun e => F (es e) (ed e)), Fin.sum_univ_add]
  refine congrArg₂ (· + ·) ?_ ?_
  · rw [← Equiv.sum_comp (finCongr (show 64 * 43 = 2752 by norm_num)), ← Equiv.sum_comp finProdFinEquiv, Fintype.sum_prod_type]
    have h : ∀ (i : Fin 64) (k : Fin 43),
        F (es (finCongr (show 2752 + 45056 = 47808 by norm_num) (Fin.castAdd 45056 (finCongr (show 64 * 43 = 2752 by norm_num) (finProdFinEquiv (i, k))))))
          (ed (finCongr (show 2752 + 45056 = 47808 by norm_num) (Fin.castAdd 45056 (finCongr (show 64 * 43 = 2752 by norm_num) (finProdFinEquiv (i, k))))))
          = F (low (src k)) (low (dst k)) := by
      intro i k
      have hv : (k.val + 43 * i.val) < 2752 := by omega
      have hm : (k.val + 43 * i.val) % 43 = k.val := by omega
      have h1 : es (finCongr (show 2752 + 45056 = 47808 by norm_num) (Fin.castAdd 45056 (finCongr (show 64 * 43 = 2752 by norm_num) (finProdFinEquiv (i, k))))) = low (src k) := by
        unfold es
        refine (dif_pos (show (k.val + 43 * i.val) < 2752 from hv)).trans ?_
        exact congrArg (fun q => low (src q)) (Fin.ext hm)
      have h2 : ed (finCongr (show 2752 + 45056 = 47808 by norm_num) (Fin.castAdd 45056 (finCongr (show 64 * 43 = 2752 by norm_num) (finProdFinEquiv (i, k))))) = low (dst k) := by
        unfold ed
        refine (dif_pos (show (k.val + 43 * i.val) < 2752 from hv)).trans ?_
        exact congrArg (fun q => low (dst q)) (Fin.ext hm)
      rw [h1, h2]
    simp only [h]
    rw [Finset.sum_const, Finset.card_univ, Fintype.card_fin]
  · refine Finset.sum_congr rfl fun r _ => ?_
    have h1 : es (finCongr (show 2752 + 45056 = 47808 by norm_num) (Fin.natAdd 2752 r)) = r := by
      unfold es
      refine (dif_neg (show ¬ (2752 + r.val < 2752) by omega)).trans ?_
      exact Fin.ext (show 2752 + r.val - 2752 = r.val by omega)
    have h2 : ed (finCongr (show 2752 + 45056 = 47808 by norm_num) (Fin.natAdd 2752 r)) = r := by
      unfold ed
      refine (dif_neg (show ¬ (2752 + r.val < 2752) by omega)).trans ?_
      exact Fin.ext (show 2752 + r.val - 2752 = r.val by omega)
    rw [h1, h2]

/-- A sum over the edges that end at row `R`. -/
theorem sum_into {M : Type} [AddCommMonoid M] (R : Fin 45056) (ψ : Fin 45056 → Fin 45056 → M) :
    ∑ e ∈ Finset.univ.filter (fun e => ed e = R), ψ (es e) (ed e)
      = 64 • (∑ k, if low (dst k) = R then ψ (low (src k)) R else 0) + ψ R R := by
  rw [Finset.sum_filter]
  have h : ∀ e, (if ed e = R then ψ (es e) (ed e) else 0) = (fun a b => if b = R then ψ a R else 0) (es e) (ed e) := by
    intro e
    by_cases q : ed e = R
    · simp [q]
    · simp [q]
  simp only [h]
  rw [sum_edges (fun a b => if b = R then ψ a R else 0)]
  simp

/-- Outside the first group only the self loop ends at a row. -/
theorem sum_into_plain {M : Type} [AddCommMonoid M] (R : Fin 45056) (hR : 22 ≤ R.val) (ψ : Fin 45056 → Fin 45056 → M) :
    ∑ e ∈ Finset.univ.filter (fun e => ed e = R), ψ (es e) (ed e) = ψ R R := by
  rw [sum_into]
  have h : ∀ k, (if low (dst k) = R then ψ (low (src k)) R else 0) = 0 := fun k => by
    rw [if_neg fun q => by have := congrArg Fin.val q; have h2 : (low (dst k)).val < 22 := (dst k).isLt; omega]
  simp [h]

/-- At a row of the first group: each source with its multiplicity. -/
theorem sum_into_low {M : Type} [AddCommMonoid M] (r : Fin 22) (ψ : Fin 45056 → Fin 45056 → M) :
    ∑ e ∈ Finset.univ.filter (fun e => ed e = low r), ψ (es e) (ed e) = ∑ s, mult r s • ψ (low s) (low r) := by
  rw [sum_into]
  simp only [low_inj]
  have h1 : (∑ k, if dst k = r then ψ (low (src k)) (low r) else 0) = ∑ s, edgeCount r s • ψ (low s) (low r) := by
    rw [← Finset.sum_filter, ← Finset.sum_fiberwise _ src]
    refine Finset.sum_congr rfl fun s _ => ?_
    rw [Finset.sum_congr rfl (g := fun _ => ψ (low s) (low r)) fun k hk => by rw [(Finset.mem_filter.1 hk).2], Finset.sum_const, Finset.filter_filter]
    rfl
  have h2 : ψ (low r) (low r) = ∑ s, (if r = s then 1 else 0) • ψ (low s) (low r) := by
    simp [ite_smul]
  rw [h1, h2, Finset.smul_sum, ← Finset.sum_add_distrib]
  refine Finset.sum_congr rfl fun s _ => ?_
  unfold mult
  rw [add_nsmul, mul_nsmul']

/-- The number of edges that end at a row. -/
theorem count_low (r : Fin 22) : ∑ e ∈ Finset.univ.filter (fun e => ed e = low r), (1 : EReal) = ((deg r : ℕ) : EReal) := by
  rw [sum_into (low r) (fun _ _ => (1 : EReal))]
  simp only [low_inj]
  rw [← Finset.sum_filter, Finset.sum_const, ← mul_nsmul']
  unfold deg inCount
  push_cast [nsmul_eq_mul]
  simp [EReal.nsmul_eq_mul]

theorem count_plain (R : Fin 45056) (hR : 22 ≤ R.val) : ∑ e ∈ Finset.univ.filter (fun e => ed e = R), (1 : EReal) = 1 :=
  sum_into_plain R hR (fun _ _ => (1 : EReal))

/-! ## Where the scatters land -/

theorem lands1 {N n : ℕ} (d : ScatterDims (shape1 N) (shape2 n 1) (shape1 n)) (huw : d.updateWindowDims = []) (hiw : d.insertedWindowDims = [0])
    (hsd : d.scatterDimsToOperandDims = [0]) (hivd : d.indexVectorDim = 1) (idx : IVec (shape2 n 1) 32) (e : Fin n) (x : Fin N) :
    d.resultIdx? (ix1 e) idx = some (ix1 x) ↔ (idx (ix2 e (0 : Fin 1))).toInt = (x.val : Int) := by
  rw [Routing.resultIdx?_ix1]
  obtain ⟨uw, iw, sd, iv, wf⟩ := d
  dsimp only at huw hiw hsd hivd
  subst huw hiw hsd hivd
  have h1 : ScatterDims.window ⟨[], [0], [0], 1, wf⟩ (ix1 e) 0 = 0 := rfl
  have h2 : ScatterDims.start ⟨[], [0], [0], 1, wf⟩ (ix1 e) idx 0 = (idx (ix2 e (0 : Fin 1))).toInt := by
    refine congrArg (fun q => (idx q).toInt) (funext fun a => ?_)
    match a with
    | ⟨0, _⟩ => rfl
    | ⟨1, _⟩ => rfl
  rw [h1, h2]
  simp

theorem lands2 {N n C : ℕ} (d : ScatterDims (shape2 N C) (shape2 n 1) (shape2 n C)) (huw : d.updateWindowDims = [1]) (hiw : d.insertedWindowDims = [0])
    (hsd : d.scatterDimsToOperandDims = [0]) (hivd : d.indexVectorDim = 1) (idx : IVec (shape2 n 1) 32) (e : Fin n) (y : Fin C) (x : Fin N) (z : Fin C) :
    d.resultIdx? (ix2 e y) idx = some (ix2 x z) ↔ (idx (ix2 e (0 : Fin 1))).toInt = (x.val : Int) ∧ y = z := by
  rw [Routing.resultIdx?_ix2]
  obtain ⟨uw, iw, sd, iv, wf⟩ := d
  dsimp only at huw hiw hsd hivd
  subst huw hiw hsd hivd
  have h1 : ScatterDims.window ⟨[1], [0], [0], 1, wf⟩ (ix2 e y) 0 = 0 := rfl
  have h3 : ScatterDims.window ⟨[1], [0], [0], 1, wf⟩ (ix2 e y) 1 = y.val := rfl
  have h4 : ScatterDims.start ⟨[1], [0], [0], 1, wf⟩ (ix2 e y) idx 1 = 0 := rfl
  have h2 : ScatterDims.start ⟨[1], [0], [0], 1, wf⟩ (ix2 e y) idx 0 = (idx (ix2 e (0 : Fin 1))).toInt := by
    refine congrArg (fun q => (idx q).toInt) (funext fun a => ?_)
    match a with
    | ⟨0, _⟩ => rfl
    | ⟨1, _⟩ => rfl
  rw [h1, h2, h3, h4]
  constructor
  · rintro ⟨p, q⟩
    exact ⟨by simpa using p, Fin.ext (by omega)⟩
  · rintro ⟨p, q⟩
    exact ⟨by simpa using p, by rw [q]; simp⟩

/-- An index word that holds a row number is that row. -/
theorem word_eq (a b : Fin 45056) : (BitVec.ofNat 32 a.val).toInt = (b.val : Int) ↔ a = b := by
  rw [StableHlo.Predicate.toInt_ofNat_small _ (by omega)]
  constructor
  · intro h; exact Fin.ext (by omega)
  · intro h; rw [h]

theorem scatter1 (d : ScatterDims (shape1 45056) (shape2 47808 1) (shape1 47808)) (huw : d.updateWindowDims = []) (hiw : d.insertedWindowDims = [0])
    (hsd : d.scatterDimsToOperandDims = [0]) (hivd : d.indexVectorDim = 1) (x : (shape1 45056).Idx → EReal) (idx : IVec (shape2 47808 1) 32)
    (u : (shape1 47808).Idx → EReal) (hidx : ∀ e, idx (ix2 e (0 : Fin 1)) = BitVec.ofNat 32 (ed e).val) (R : Fin 45056) :
    Ideal.hostScatterAdd d x idx u (ix1 R) = x (ix1 R) + ∑ e ∈ Finset.univ.filter (fun e => ed e = R), u (ix1 e) := by
  show x (ix1 R) + _ = _
  refine congrArg (x (ix1 R) + ·) ?_
  have hl : ∀ e, d.resultIdx? (ix1 e) idx = some (ix1 R) ↔ ed e = R := fun e => by rw [lands1 d huw hiw hsd hivd, hidx, word_eq]
  refine (Finset.sum_bij (fun e _ => ix1 e) ?_ ?_ ?_ ?_).symm
  · intro e he
    exact Finset.mem_filter.2 ⟨Finset.mem_univ _, (hl e).2 (Finset.mem_filter.1 he).2⟩
  · intro a _ b _ h
    exact congrFun h 0
  · intro j hj
    have ej : j = ix1 (j 0) := funext fun a => by match a with | ⟨0, _⟩ => rfl
    refine ⟨j 0, Finset.mem_filter.2 ⟨Finset.mem_univ _, (hl (j 0)).1 ?_⟩, ej.symm⟩
    have hh := (Finset.mem_filter.1 hj).2
    rw [ej] at hh
    exact hh
  · intro e _
    rfl

theorem scatter2 {C : ℕ} (d : ScatterDims (shape2 45056 C) (shape2 47808 1) (shape2 47808 C)) (huw : d.updateWindowDims = [1]) (hiw : d.insertedWindowDims = [0])
    (hsd : d.scatterDimsToOperandDims = [0]) (hivd : d.indexVectorDim = 1) (x : (shape2 45056 C).Idx → EReal) (idx : IVec (shape2 47808 1) 32)
    (u : (shape2 47808 C).Idx → EReal) (hidx : ∀ e, idx (ix2 e (0 : Fin 1)) = BitVec.ofNat 32 (ed e).val) (R : Fin 45056) (y : Fin C) :
    Ideal.hostScatterAdd d x idx u (ix2 R y) = x (ix2 R y) + ∑ e ∈ Finset.univ.filter (fun e => ed e = R), u (ix2 e y) := by
  show x (ix2 R y) + _ = _
  refine congrArg (x (ix2 R y) + ·) ?_
  have hl : ∀ e z, d.resultIdx? (ix2 e z) idx = some (ix2 R y) ↔ ed e = R ∧ z = y := fun e z => by rw [lands2 d huw hiw hsd hivd, hidx, word_eq]
  refine (Finset.sum_bij (fun e _ => ix2 e y) ?_ ?_ ?_ ?_).symm
  · intro e he
    exact Finset.mem_filter.2 ⟨Finset.mem_univ _, (hl e y).2 ⟨(Finset.mem_filter.1 he).2, rfl⟩⟩
  · intro a _ b _ h
    exact congrFun h 0
  · intro j hj
    have ej : j = ix2 (j 0) (j 1) := funext fun a => by match a with | ⟨0, _⟩ => rfl | ⟨1, _⟩ => rfl
    have hh := (Finset.mem_filter.1 hj).2
    rw [ej] at hh
    obtain ⟨p, q⟩ := (hl (j 0) (j 1)).1 hh
    exact ⟨j 0, Finset.mem_filter.2 ⟨Finset.mem_univ _, p⟩, by rw [← q]; exact ej.symm⟩
  · intro e _
    rfl

end Cert.Proof.RGraph

end
-- ==== Proof.RLayer.lean ====
/- One graph convolution of the reference at an index: its gather, its product with the edges' norms, its scatter, its bias and its
   maximum with zero, for any widths. -/
module

public import Idealize.ShloMosaic.Lib.Pointwise
public import Idealize.ShloMosaic.Lib.Pointwise.IndexBridge
public import proofs.«01_k».proof.Proof.RGraph

@[expose] public section

noncomputable section

namespace Cert.Proof.RLayer

open Idealize.ShloMosaic Idealize.ShloMosaic.Routing Cert.Proof.Spec Cert.Proof.RGraph

/-- The power −1/2 of a row's degree. -/
def dinv (R : Fin 45056) : EReal := if h : R.val < 22 then Spec.norm ⟨R.val, h⟩ else 1

theorem dinv_low (r : Fin 22) : dinv (low r) = Spec.norm r := dif_pos r.isLt

/-- A layer at every row. -/
def layer {K C : ℕ} (w : Fin K → Fin C → EReal) (b : Fin C → EReal) (X : Fin 45056 → Fin K → EReal) (R : Fin 45056) (d : Fin C) : EReal :=
  if h : R.val < 22 then graph w b (fun s => X (low s)) ⟨R.val, h⟩ d else plain w b (X R) d

theorem layer_sum {K C : ℕ} (w : Fin K → Fin C → EReal) (b : Fin C → EReal) (X : Fin 45056 → Fin K → EReal) (R : Fin 45056) (d : Fin C) :
    max ((∑ e ∈ Finset.univ.filter (fun e => ed e = R), dinv (es e) * dinv (ed e) * ∑ k, X (es e) k * w k d) + b d) 0 = layer w b X R d := by
  unfold layer
  by_cases h : R.val < 22
  · rw [dif_pos h]
    have e := sum_into_low ⟨R.val, h⟩ (fun p q => dinv p * dinv q * ∑ k, X p k * w k d)
    simp only [dinv_low] at e
    exact congrArg (fun q => max (q + b d) 0) e
  · rw [dif_neg h]
    have e := sum_into_plain R (by omega) (fun p q => dinv p * dinv q * ∑ k, X p k * w k d)
    have e1 : dinv R = 1 := dif_neg h
    simp only [e1, one_mul] at e
    exact congrArg (fun q => max (q + b d) 0) e

/-- Four layers from the rows' inputs. -/
theorem layers_low (p : Net) (X : Fin 45056 → Fin 3 → EReal) (r : Fin 22) (d : Fin 512) :
    layer p.w4 p.b4 (layer p.w3 p.b3 (layer p.w2 p.b2 (layer p.w1 p.b1 X))) (low r) d = p.nodes (fun s => X (low s)) r d := by
  have h : ∀ {K C : ℕ} (w : Fin K → Fin C → EReal) (b : Fin C → EReal) (X : Fin 45056 → Fin K → EReal),
      (fun s => layer w b X (low s)) = graph w b (fun s => X (low s)) := by
    intro K C w b X
    funext s d
    exact dif_pos s.isLt
  refine (dif_pos r.isLt).trans ?_
  rw [h, h, h]
  rfl

theorem layers_plain (p : Net) (X : Fin 45056 → Fin 3 → EReal) (R : Fin 45056) (hR : ¬ R.val < 22) (d : Fin 512) :
    layer p.w4 p.b4 (layer p.w3 p.b3 (layer p.w2 p.b2 (layer p.w1 p.b1 X))) R d = p.row (X R) d := by
  have h : ∀ {K C : ℕ} (w : Fin K → Fin C → EReal) (b : Fin C → EReal) (X : Fin 45056 → Fin K → EReal),
      layer w b X R = plain w b (X R) := by
    intro K C w b X
    funext d
    exact dif_neg hR
  rw [h, h, h, h]
  rfl

/-- A row number in an index column, after the wrap of the negative ones. -/
theorem wrapped (w z a : IVec (shape1 47808) 32) (g : Fin 47808 → Fin 45056) (hz : ∀ e, z (ix1 e) = 0#32) (hw : ∀ e, w (ix1 e) = BitVec.ofNat 32 (g e).val)
    (hb : (shape1 47808).BroadcastsInDim (shape2 47808 1) ![0]) (e : Fin 47808) :
    broadcastInDim (shape2 47808 1) ![0] hb (select (cmpi .slt w z) (addi w a) w) (ValueIdx.ix2 e 0) = BitVec.ofNat 32 (g e).val := by
  rw [← ix2_eq_valueIdx]
  pointwise
  rw [hz, hw]
  refine wrap_of_lt _ _ ?_
  rw [BitVec.toNat_ofNat, Nat.mod_eq_of_lt (by have := (g e).isLt; omega)]
  have := (g e).isLt
  norm_num
  omega

/-- The convolution. -/
theorem conv {K C : ℕ} (ds : ScatterDims (shape2 45056 C) (shape2 47808 1) (shape2 47808 C)) (huw : ds.updateWindowDims = [1])
    (hiw : ds.insertedWindowDims = [0]) (hsd : ds.scatterDimsToOperandDims = [0]) (hivd : ds.indexVectorDim = 1)
    (dg : GatherDims (shape2 45056 C) (shape2 47808 1) (shape2 47808 C)) (hoff : dg.offsetDims = [1]) (hcoll : dg.collapsedSliceDims = [0])
    (hob : dg.operandBatchingDims = []) (hsim : dg.startIndexMap = [0]) (hgv : dg.indexVectorDim = 1)
    (z : FVec Ideal (shape2 45056 C) .f32) (hz : ∀ R y, z (ix2 R y) = (0 : EReal))
    (ia ib : IVec (shape2 47808 1) 32) (hia : ∀ e, ia (ValueIdx.ix2 e 0) = BitVec.ofNat 32 (es e).val) (hib : ∀ e, ib (ValueIdx.ix2 e 0) = BitVec.ofNat 32 (ed e).val)
    (nb : FVec Ideal (shape2 47808 C) .f32) (hnb : ∀ e y, nb (ix2 e y) = dinv (es e) * dinv (ed e))
    (H : FVec Ideal (shape2 45056 C) .f32) (X : Fin 45056 → Fin K → EReal) (w : Fin K → Fin C → EReal) (hH : ∀ R y, H (ix2 R y) = ∑ k, X R k * w k y)
    (R : Fin 45056) (y : Fin C) :
    Host.scatterAdd (F := Ideal) (φ := .f32) ds z ib (mulf nb (Host.gather dg H ia)) (ix2 R y)
      = ∑ e ∈ Finset.univ.filter (fun e => ed e = R), dinv (es e) * dinv (ed e) * ∑ k, X (es e) k * w k y := by
  rw [ix2_eq_valueIdx]
  refine (scatter2 ds huw hiw hsd hivd z ib _ hib R y).trans ?_
  rw [← ix2_eq_valueIdx, hz, zero_add]
  refine Finset.sum_congr rfl fun e _ => ?_
  show nb (ValueIdx.ix2 e y) * Host.gather dg H ia (ValueIdx.ix2 e y) = _
  rw [gather_row dg hoff hcoll hob hsim hgv H ia e y (es e) (hia e) (by norm_num), ← ix2_eq_valueIdx, ← ix2_eq_valueIdx, hnb, hH]

end Cert.Proof.RLayer

end
-- ==== Proof.RPre.lean ====
/- The reference before its loop: the edge lists, the degrees, the edges' norms, the four convolutions and the mean over the nodes. -/
module

public import proofs.«01_k».proof.Proof.Gen.ReferenceIdeal.Run
public import Idealize.ShloMosaic.Lib.StableHlo.ReadAt
public import proofs.«01_k».proof.Proof.RLayer

@[expose] public section

noncomputable section

namespace Cert.Proof.RPre

open Idealize.ShloMosaic Idealize.ShloMosaic.StableHlo Cert.ReferenceIdeal Cert.ReferenceIdeal.Gen Cert.ReferenceIdeal.Value
open Cert.Proof.Spec Cert.Proof.RGraph Cert.Proof.RLayer

variable (V : Valuation τ sig (Elt Ideal))

/-! ## The stretches -/

def st1 : Valuation τ sig (Elt Ideal) := after hostOps0_1 (after hostOps0 V)
def st2 : Valuation τ sig (Elt Ideal) := after hostOps0_3 (after hostOps0_2 V)
def st3 : Valuation τ sig (Elt Ideal) := after hostOps0_5 (after hostOps0_4 V)
def st4 : Valuation τ sig (Elt Ideal) := after hostOps0_7 (after hostOps0_6 V)
def st5 : Valuation τ sig (Elt Ideal) := after hostOps0_9 (after hostOps0_8 V)

/-! ## The edge lists and the degrees -/

theorem lit0_at : ∀ k : Fin 43, lit0 (S43.rowMajor (ix1 k)) = BitVec.ofNat 32 (src k).val := by decide
theorem lit1_at : ∀ k : Fin 43, lit1 (S43.rowMajor (ix1 k)) = BitVec.ofNat 32 (dst k).val := by decide

theorem src_at (e : Fin 47808) : st1 V (Proc.devRef .tc main_v4) (ix1 e) = BitVec.ofNat 32 (es e).val := by
  unfold st1
  after_reads_at
  unfold es
  split
  · exact lit0_at _
  · rfl

theorem dst_at (e : Fin 47808) : st1 V (Proc.devRef .tc main_v8) (ix1 e) = BitVec.ofNat 32 (ed e).val := by
  unfold st1
  after_reads_at
  unfold ed
  split
  · exact lit1_at _
  · rfl

/-- The degree of a row. -/
def degree (R : Fin 45056) : EReal := if h : R.val < 22 then ((deg ⟨R.val, h⟩ : ℕ) : EReal) else 1

theorem degree_eq (R : Fin 45056) : ∑ e ∈ Finset.univ.filter (fun e => ed e = R), (1 : EReal) = degree R := by
  unfold degree
  split
  · rename_i h
    exact count_low ⟨R.val, h⟩
  · exact count_plain R (by omega)

theorem degree_pos (R : Fin 45056) : 0 < degree R := by
  unfold degree
  split
  · exact_mod_cast Nat.succ_pos _
  · exact zero_lt_one

theorem invSqrt_degree (R : Fin 45056) : invSqrt (degree R) = dinv R := by
  unfold degree dinv
  split
  · rfl
  · exact Lit.invSqrt_one

/-- The scatter of ones counts the edges that end at a row. -/
theorem degree_at (w : IVec S47808 32) (hw : ∀ e, w (ix1 e) = BitVec.ofNat 32 (ed e).val) (R : Fin 45056) :
    (Host.scatterAdd (F := Ideal) (φ := .f32) scatter_S45056_S47808x1_S47808_n_0_0_1
      (broadcastInDim S45056 ![] bcast_S_S45056 (constant S_ .f32 0x00000000#32))
      (broadcastInDim S47808x1 ![0] bcast_S47808_S47808x1_0
        (select (cmpi .slt w (broadcastInDim S47808 ![] bcast_S_S47808 (constantI S_ 32 0#32)))
          (addi w (broadcastInDim S47808 ![] bcast_S_S47808 (constantI S_ 32 45056#32))) w))
      (broadcastInDim S47808 ![] bcast_S_S47808 (constant S_ .f32 0x3F800000#32)) (ix1 R) : EReal) = degree R := by
  refine (congrArg _ (ix1_eq_valueIdx R)).trans ?_
  refine (scatter1 scatter_S45056_S47808x1_S47808_n_0_0_1 rfl rfl rfl rfl _ _ _ (fun e => wrapped _ _ _ ed (fun e => rfl) hw _ e) R).trans ?_
  rw [← degree_eq]
  refine (congrArg₂ (· + ·) Ideal.ofBits_zero_f32 (Finset.sum_congr rfl fun e _ => Lit.one)).trans (zero_add _)

theorem dinv_at (R : Fin 45056) : st1 V (Proc.devRef .tc main_v22) (ix1 R) = dinv R := by
  unfold st1
  after_reads_at
  rw [degree_at]
  · rw [if_pos (degree_pos R)]
    exact invSqrt_degree R
  · intro e
    pointwise
    after_reads_at
    unfold ed
    split
    · exact lit1_at _
    · rfl

/-! ## The edges' norms -/

/-- What a stretch must find: the edge lists, and the rows' powers or the edges' norms. -/
structure Lists (V : Valuation τ sig (Elt Ideal)) : Prop where
  s : ∀ e, V (Proc.devRef .tc main_v4) (ix1 e) = BitVec.ofNat 32 (es e).val
  t : ∀ e, V (Proc.devRef .tc main_v8) (ix1 e) = BitVec.ofNat 32 (ed e).val

theorem take_at (x : FVec Ideal S45056 .f32) (w : IVec S47808 32) (g : Fin 47808 → Fin 45056) (hw : ∀ e, w (ix1 e) = BitVec.ofNat 32 (g e).val) (e : Fin 47808) :
    (Host.gather gather_S45056_S47808x1_S47808_n_0_n_n_0_1_1 x
      (broadcastInDim S47808x1 ![0] bcast_S47808_S47808x1_0
        (select (cmpi .slt w (broadcastInDim S47808 ![] bcast_S_S47808 (constantI S_ 32 0#32)))
          (addi w (broadcastInDim S47808 ![] bcast_S_S47808 (constantI S_ 32 45056#32))) w)) (ix1 e) : EReal) = x (ix1 (g e)) := by
  rw [ix1_eq_valueIdx, ix1_eq_valueIdx]
  exact Routing.gather_take1 gather_S45056_S47808x1_S47808_n_0_n_n_0_1_1 rfl rfl rfl rfl x _ e (g e) (wrapped _ _ _ g (fun e => rfl) hw _ e) (by norm_num)

theorem norm_at (h : Lists V) (hd : ∀ R, V (Proc.devRef .tc main_v22) (ix1 R) = dinv R) (e : Fin 47808) :
    st2 V (Proc.devRef .tc main_v37) (ix1 e) = dinv (es e) * dinv (ed e) := by
  unfold st2
  after_reads_at
  rw [take_at _ _ es h.s, take_at _ _ ed h.t, hd, hd]

/-! ## The layers -/

theorem layer1_at (h : Lists V) (hd : ∀ R, V (Proc.devRef .tc main_v22) (ix1 R) = dinv R) (R : Fin 45056) (d : Fin 64) :
    st2 V (Proc.devRef .tc main_v63) (ix2 R d)
      = layer (fun k d => V (Proc.devRef .tc main_arg1) (ix2 k d)) (fun d => V (Proc.devRef .tc main_arg2) (ix1 d))
          (fun R l => V (Proc.devRef .tc main_arg0) (ix4 ⟨R.val % 2048 / 64, by omega⟩ ⟨R.val % 2048 % 64, by omega⟩ ⟨R.val / 2048, by omega⟩ l)) R d := by
  unfold st2
  after_reads_at
  rw [conv scatter_S45056x64_S47808x1_S47808x64_1_0_0_1 rfl rfl rfl rfl gather_S45056x64_S47808x1_S47808x64_1_0_n_n_0_1_164 rfl rfl rfl rfl rfl
    _ ?_ _ _ ?_ ?_ _ ?_ _ (fun R l => V (Proc.devRef .tc main_arg0) (ix4 ⟨R.val % 2048 / 64, by omega⟩ ⟨R.val % 2048 % 64, by omega⟩ ⟨R.val / 2048, by omega⟩ l)) (fun k d => V (Proc.devRef .tc main_arg1) (ix2 k d)) ?_]
  · refine Eq.trans ?_ (layer_sum _ _ _ R d)
    refine congrArg₂ max ?_ rfl
    refine congrArg₂ (· + ·) ?_ rfl
    rfl
  · exact fun R y => Ideal.ofBits_zero_f32
  · exact wrapped _ _ _ es (fun e => rfl) h.s _
  · exact wrapped _ _ _ ed (fun e => rfl) h.t _
  · intro e y
    pointwise
    rw [take_at _ _ es h.s, take_at _ _ ed h.t, hd, hd]
  · intro R y
    pointwise

theorem layer2_at (h : Lists V) (hn : ∀ e, V (Proc.devRef .tc main_v37) (ix1 e) = dinv (es e) * dinv (ed e)) (X : Fin 45056 → Fin 64 → EReal)
    (hX : ∀ R k, V (Proc.devRef .tc main_v63) (ix2 R k) = X R k) (R : Fin 45056) (d : Fin 128) :
    st3 V (Proc.devRef .tc main_v86) (ix2 R d) = layer (fun k d => V (Proc.devRef .tc main_arg3) (ix2 k d)) (fun d => V (Proc.devRef .tc main_arg4) (ix1 d)) X R d := by
  unfold st3
  after_reads_at
  rw [conv scatter_S45056x128_S47808x1_S47808x128_1_0_0_1 rfl rfl rfl rfl gather_S45056x128_S47808x1_S47808x128_1_0_n_n_0_1_1128 rfl rfl rfl rfl rfl
    _ ?_ _ _ ?_ ?_ _ ?_ _ X (fun k d => V (Proc.devRef .tc main_arg3) (ix2 k d)) ?_]
  · refine Eq.trans ?_ (layer_sum _ _ _ R d)
    refine congrArg₂ max ?_ rfl
    refine congrArg₂ (· + ·) ?_ rfl
    rfl
  · exact fun R y => Ideal.ofBits_zero_f32
  · exact wrapped _ _ _ es (fun e => rfl) h.s _
  · exact wrapped _ _ _ ed (fun e => rfl) h.t _
  · intro e y
    pointwise
    exact hn e
  · intro R y
    pointwise
    simp only [hX]

theorem layer3_at (h : Lists V) (hn : ∀ e, V (Proc.devRef .tc main_v37) (ix1 e) = dinv (es e) * dinv (ed e)) (X : Fin 45056 → Fin 128 → EReal)
    (hX : ∀ R k, V (Proc.devRef .tc main_v86) (ix2 R k) = X R k) (R : Fin 45056) (d : Fin 256) :
    st4 V (Proc.devRef .tc main_v109) (ix2 R d) = layer (fun k d => V (Proc.devRef .tc main_arg5) (ix2 k d)) (fun d => V (Proc.devRef .tc main_arg6) (ix1 d)) X R d := by
  unfold st4
  after_reads_at
  rw [conv scatter_S45056x256_S47808x1_S47808x256_1_0_0_1 rfl rfl rfl rfl gather_S45056x256_S47808x1_S47808x256_1_0_n_n_0_1_1256 rfl rfl rfl rfl rfl
    _ ?_ _ _ ?_ ?_ _ ?_ _ X (fun k d => V (Proc.devRef .tc main_arg5) (ix2 k d)) ?_]
  · refine Eq.trans ?_ (layer_sum _ _ _ R d)
    refine congrArg₂ max ?_ rfl
    refine congrArg₂ (· + ·) ?_ rfl
    rfl
  · exact fun R y => Ideal.ofBits_zero_f32
  · exact wrapped _ _ _ es (fun e => rfl) h.s _
  · exact wrapped _ _ _ ed (fun e => rfl) h.t _
  · intro e y
    pointwise
    exact hn e
  · intro R y
    pointwise
    simp only [hX]

theorem layer4_at (h : Lists V) (hn : ∀ e, V (Proc.devRef .tc main_v37) (ix1 e) = dinv (es e) * dinv (ed e)) (X : Fin 45056 → Fin 256 → EReal)
    (hX : ∀ R k, V (Proc.devRef .tc main_v109) (ix2 R k) = X R k) (R : Fin 45056) (d : Fin 512) :
    st5 V (Proc.devRef .tc main_v132) (ix2 R d) = layer (fun k d => V (Proc.devRef .tc main_arg7) (ix2 k d)) (fun d => V (Proc.devRef .tc main_arg8) (ix1 d)) X R d := by
  unfold st5
  after_reads_at
  rw [conv scatter_S45056x512_S47808x1_S47808x512_1_0_0_1 rfl rfl rfl rfl gather_S45056x512_S47808x1_S47808x512_1_0_n_n_0_1_1512 rfl rfl rfl rfl rfl
    _ ?_ _ _ ?_ ?_ _ ?_ _ X (fun k d => V (Proc.devRef .tc main_arg7) (ix2 k d)) ?_]
  · refine Eq.trans ?_ (layer_sum _ _ _ R d)
    refine congrArg₂ max ?_ rfl
    refine congrArg₂ (· + ·) ?_ rfl
    rfl
  · exact fun R y => Ideal.ofBits_zero_f32
  · exact wrapped _ _ _ es (fun e => rfl) h.s _
  · exact wrapped _ _ _ ed (fun e => rfl) h.t _
  · intro e y
    pointwise
    exact hn e
  · intro R y
    pointwise
    simp only [hX]

/-! ## The mean over the nodes -/

/-- Row `n` of the group of batch row `b` at time `t`. -/
def at22 (b : Fin 32) (t : Fin 64) (n : Fin 22) : Fin 45056 := rowOf (groupOf b t) n

theorem fwd_at (Y : Fin 45056 → Fin 512 → EReal) (hY : ∀ R d, V (Proc.devRef .tc main_v132) (ix2 R d) = Y R d) (t : Fin 64) (b : Fin 32) (f : Fin 512) :
    after (hostOps0_10 (F := Ideal)) V (Proc.devRef .tc main_v142_0) (ix3 t b f) = by22 (∑ n, Y (at22 b t n) f) := by
  after_reads_at
  simp only [id]
  pointwise
  refine congrArg (fun q => Ideal.div q _) (Finset.sum_congr rfl fun n _ => ?_)
  rw [← hY]
  exact congrArg (fun q => V (Proc.devRef .tc main_v132) (ix2 q f)) (Fin.ext (show b.val * 1408 + t.val * 22 + n.val = 22 * (64 * b.val + t.val) + n.val by omega))

theorem bwd_at (Y : Fin 45056 → Fin 512 → EReal) (hY : ∀ R d, V (Proc.devRef .tc main_v132) (ix2 R d) = Y R d) (t : Fin 64) (b : Fin 32) (f : Fin 512) :
    after (hostOps0_10 (F := Ideal)) V (Proc.devRef .tc main_v142_1) (ix3 t b f) = by22 (∑ n, Y (at22 b t.rev n) f) := by
  after_reads_at
  simp only [id]
  pointwise
  simp only [List.mem_singleton, Fin.reduceEq, ↓reduceIte]
  refine congrArg (fun q => Ideal.div q _) (Finset.sum_congr rfl fun n _ => ?_)
  rw [← hY]
  exact congrArg (fun q => V (Proc.devRef .tc main_v132) (ix2 q f)) (Fin.ext (show b.val * 1408 + t.rev.val * 22 + n.val = 22 * (64 * b.val + t.rev.val) + n.val by omega))

/-! ## What the stretches keep -/

/-- The buffers that a stretch leaves alone. -/
def names : List (Ref sig .tc) :=
  [main_v4, main_v8, main_arg0, main_arg1, main_arg2, main_arg3, main_arg4, main_arg5, main_arg6, main_arg7, main_arg8, main_arg9, main_arg10,
    main_arg11, main_arg12, main_arg13, main_arg14, main_arg15, main_arg16, main_arg17, main_arg18]

theorem kept {ops : List (HloOp τ sig (Elt Ideal))} {W : List (Ref sig .tc)}
    (hw : ops.Forall fun op => op.writes ⊆ (W.map (Proc.devRef (τ := τ) .tc)).toFinset) (r : Ref sig .tc) (h : r ∉ W) :
    after ops V (Proc.devRef .tc r) = V (Proc.devRef .tc r) :=
  after_of_writes_sub ops V hw h

theorem st1_keep (r : Ref sig .tc) (h : r ∈ names.drop 2) : st1 V (Proc.devRef .tc r) = V (Proc.devRef .tc r) :=
  (kept _ hostOps0_1_writes r ((by decide +kernel : ∀ r ∈ names.drop 2, r ∉ hostOps0_1_W) r h)).trans
    (kept _ hostOps0_writes r ((by decide +kernel : ∀ r ∈ names.drop 2, r ∉ hostOps0_W) r h))
theorem st2_keep (r : Ref sig .tc) (h : r ∈ names) : st2 V (Proc.devRef .tc r) = V (Proc.devRef .tc r) :=
  (kept _ hostOps0_3_writes r ((by decide +kernel : ∀ r ∈ names, r ∉ hostOps0_3_W) r h)).trans
    (kept _ hostOps0_2_writes r ((by decide +kernel : ∀ r ∈ names, r ∉ hostOps0_2_W) r h))
theorem st3_keep (r : Ref sig .tc) (h : r ∈ main_v37 :: names) : st3 V (Proc.devRef .tc r) = V (Proc.devRef .tc r) :=
  (kept _ hostOps0_5_writes r ((by decide +kernel : ∀ r ∈ main_v37 :: names, r ∉ hostOps0_5_W) r h)).trans
    (kept _ hostOps0_4_writes r ((by decide +kernel : ∀ r ∈ main_v37 :: names, r ∉ hostOps0_4_W) r h))
theorem st4_keep (r : Ref sig .tc) (h : r ∈ main_v37 :: names) : st4 V (Proc.devRef .tc r) = V (Proc.devRef .tc r) :=
  (kept _ hostOps0_7_writes r ((by decide +kernel : ∀ r ∈ main_v37 :: names, r ∉ hostOps0_7_W) r h)).trans
    (kept _ hostOps0_6_writes r ((by decide +kernel : ∀ r ∈ main_v37 :: names, r ∉ hostOps0_6_W) r h))
theorem st5_keep (r : Ref sig .tc) (h : r ∈ main_v37 :: names) : st5 V (Proc.devRef .tc r) = V (Proc.devRef .tc r) :=
  (kept _ hostOps0_9_writes r ((by decide +kernel : ∀ r ∈ main_v37 :: names, r ∉ hostOps0_9_W) r h)).trans
    (kept _ hostOps0_8_writes r ((by decide +kernel : ∀ r ∈ main_v37 :: names, r ∉ hostOps0_8_W) r h))
theorem end_keep (r : Ref sig .tc) (h : r ∈ main_v37 :: names) : after (hostOps0_10 (F := Ideal)) V (Proc.devRef .tc r) = V (Proc.devRef .tc r) :=
  kept _ hostOps0_10_writes r ((by decide +kernel : ∀ r ∈ main_v37 :: names, r ∉ hostOps0_10_W) r h)

end Cert.Proof.RPre

end
-- ==== Proof.RLoop.lean ====
/- The reference's loop over time, in the words of `Spec`: what its carried buffers hold after `n` trips, and what the
   operations after the loop make of them. -/
module

public import proofs.«01_k».proof.Proof.Gen.ReferenceIdeal.Run
public import proofs.«01_k».proof.Proof.Spec
public import proofs.«01_k».proof.Proof.Lit
public import Idealize.ShloMosaic.Lib.Pointwise
public import Idealize.ShloMosaic.Lib.WordCmp
public import Idealize.ShloMosaic.Lib.Tactic.CleanTypes

@[expose] public section

set_option maxRecDepth 16384
set_option maxHeartbeats 800000

noncomputable section

namespace Cert.Proof.RLoop

open Cert.Proof.Spec Cert.ReferenceIdeal Cert.ReferenceIdeal.Gen Cert.ReferenceIdeal.Value
open Idealize.ShloMosaic Idealize.ShloMosaic.TcCoe Idealize.ShloMosaic.StableHlo

/-! ## The loop's slices at trip `n` -/

theorem slices_in (n : Fin 64) : S64x32x512.Slices ![n.val, 0, 0] S1x32x512 :=
  ⟨rfl, fun a => by
    fin_cases a
    · show n.val + 1 ≤ 64
      omega
    · exact le_refl 32
    · exact le_refl 512⟩
theorem slices_out (n : Fin 64) : S64x32x256.Slices ![n.val, 0, 0] S1x32x256 :=
  ⟨rfl, fun a => by
    fin_cases a
    · show n.val + 1 ≤ 64
      omega
    · exact le_refl 32
    · exact le_refl 256⟩

theorem starts (n : Fin 64) (k : Fin 3) :
    (((![(fun _ => BitVec.ofNat 32 n.val), constantI S_ 32 0#32, constantI S_ 32 0#32] : Fin 3 → (⟨S_, .i32⟩ : BufTy).Contents (Elt Ideal))) k (Shape.Idx.first h_S_)).toInt
      = ((![n.val, 0, 0] : Fin 3 → ℕ) k : Int) := by
  fin_cases k
  · exact WordCmp.toInt_ofNat_of_lt (by omega)
  · rfl
  · rfl

/-- The step's input row. -/
theorem slice_at (X : S64x32x512.Idx → EReal) (n : Fin 64) (r : Fin 32) (f : Fin 512) :
    shapeCast S32x512 (extractStridedSlice S1x32x512 ![n.val, 0, 0] X (slices_in n)) shapeCasts_S1x32x512_S32x512 (ix2 r f) = X (ix3 n r f) := by
  pointwise

/-- A step's row written into the sequence of rows. -/
theorem update_at (Y : S64x32x256.Idx → EReal) (h : S32x256.Idx → EReal) (n t : Fin 64) (r : Fin 32) (k : Fin 256) :
    updateSlice Y (broadcastInDim S1x32x256 ![1, 2] bcast_S32x256_S1x32x256_1_2 h) ![n.val, 0, 0] (slices_out n) (ix3 t r k)
      = if t = n then h (ix2 r k) else Y (ix3 t r k) := by
  pointwise
  by_cases e : t = n
  · rw [if_pos e, dif_pos (by subst e; omega)]
  · rw [if_neg e, dif_neg (fun h => e (Fin.ext (by omega)))]

/-! ## One trip -/

variable (V : Valuation τ sig (Elt Ideal))

/-- The two directions' matrices and the gates' input parts, as the carried buffers hold them. -/
def uF (j : Fin 1024) (k : Fin 256) : EReal := V (Proc.devRef .tc main_v142_3) (ix2 j k)
def uB (j : Fin 1024) (k : Fin 256) : EReal := V (Proc.devRef .tc main_v142_7) (ix2 j k)
def gF (r : Fin 32) (t : Fin 64) : Fin 1024 → EReal :=
  inGate (fun j f => V (Proc.devRef .tc main_v142_2) (ix2 j f)) (fun j => V (Proc.devRef .tc main_v142_4) (ix1 j)) (fun j => V (Proc.devRef .tc main_v142_5) (ix1 j))
    (fun f => V (Proc.devRef .tc main_v142_0) (ix3 t r f))
def gB (r : Fin 32) (t : Fin 64) : Fin 1024 → EReal :=
  inGate (fun j f => V (Proc.devRef .tc main_v142_6) (ix2 j f)) (fun j => V (Proc.devRef .tc main_v142_8) (ix1 j)) (fun j => V (Proc.devRef .tc main_v142_9) (ix1 j))
    (fun f => V (Proc.devRef .tc main_v142_1) (ix3 t r f))

def hF (r : Fin 32) (k : Fin 256) : EReal := V (Proc.devRef .tc main_v142_11) (ix2 r k)
def cF (r : Fin 32) (k : Fin 256) : EReal := V (Proc.devRef .tc main_v142_12) (ix2 r k)
def hB (r : Fin 32) (k : Fin 256) : EReal := V (Proc.devRef .tc main_v142_13) (ix2 r k)
def cB (r : Fin 32) (k : Fin 256) : EReal := V (Proc.devRef .tc main_v142_14) (ix2 r k)

/-- The order in which the reference adds a gate's four parts. -/
theorem parts (a b c d : EReal) : a + b + c + d = (a + (c + d)) + b := by
  rw [add_assoc (a + b), add_right_comm]

theorem v166_at (n : Fin 64) (hc : V (Proc.devRef .tc main_v142_10) = fun _ => BitVec.ofNat 32 n.val) (r : Fin 32) (j : Fin 1024) :
    res_main_while0b_v166 (F := Ideal) V (ix2 r j) = gates (uF V) (gF V r n) (hF V r) j := by
  unfold res_main_while0b_v166
  simp only [hc]
  rw [WordCmp.dynamicSlice_eq_extract _ _ _ _ ![n.val, 0, 0] (slices_in n) (starts n)]
  clean_types
  pointwise
  exact parts _ _ _ _

theorem v205_at (n : Fin 64) (hc : V (Proc.devRef .tc main_v142_10) = fun _ => BitVec.ofNat 32 n.val) (r : Fin 32) (j : Fin 1024) :
    res_main_while0b_v205 (F := Ideal) V (ix2 r j) = gates (uB V) (gB V r n) (hB V r) j := by
  unfold res_main_while0b_v205
  simp only [hc]
  rw [WordCmp.dynamicSlice_eq_extract _ _ _ _ ![n.val, 0, 0] (slices_in n) (starts n)]
  clean_types
  pointwise
  exact parts _ _ _ _

theorem v186_at (n : Fin 64) (hc : V (Proc.devRef .tc main_v142_10) = fun _ => BitVec.ofNat 32 n.val) (r : Fin 32) (k : Fin 256) :
    res_main_while0b_v186 (F := Ideal) V (ix2 r k) = cellC (gates (uF V) (gF V r n) (hF V r)) (cF V r) k := by
  unfold res_main_while0b_v186
  clean_types
  pointwise
  simp only [v166_at V n hc]
  rfl

theorem v194_at (n : Fin 64) (hc : V (Proc.devRef .tc main_v142_10) = fun _ => BitVec.ofNat 32 n.val) (r : Fin 32) (k : Fin 256) :
    res_main_while0b_v194 (F := Ideal) V (ix2 r k) = cellH (gates (uF V) (gF V r n) (hF V r)) (cF V r) k := by
  unfold res_main_while0b_v194
  clean_types
  pointwise
  simp only [v166_at V n hc, v186_at V n hc]
  rfl

theorem v225_at (n : Fin 64) (hc : V (Proc.devRef .tc main_v142_10) = fun _ => BitVec.ofNat 32 n.val) (r : Fin 32) (k : Fin 256) :
    res_main_while0b_v225 (F := Ideal) V (ix2 r k) = cellC (gates (uB V) (gB V r n) (hB V r)) (cB V r) k := by
  unfold res_main_while0b_v225
  clean_types
  pointwise
  simp only [v205_at V n hc]
  rfl

theorem v233_at (n : Fin 64) (hc : V (Proc.devRef .tc main_v142_10) = fun _ => BitVec.ofNat 32 n.val) (r : Fin 32) (k : Fin 256) :
    res_main_while0b_v233 (F := Ideal) V (ix2 r k) = cellH (gates (uB V) (gB V r n) (hB V r)) (cB V r) k := by
  unfold res_main_while0b_v233
  clean_types
  pointwise
  simp only [v205_at V n hc, v225_at V n hc]
  rfl

theorem step15_at (n : Fin 64) (hc : V (Proc.devRef .tc main_v142_10) = fun _ => BitVec.ofNat 32 n.val) (t : Fin 64) (r : Fin 32) (k : Fin 256) :
    step_main_v142_15 (F := Ideal) V (ix3 t r k)
      = if t = n then cellH (gates (uF V) (gF V r n) (hF V r)) (cF V r) k else V (Proc.devRef .tc main_v142_15) (ix3 t r k) := by
  unfold step_main_v142_15
  simp only [hc, id]
  rw [WordCmp.dynamicUpdateSlice_eq_update _ _ _ _ ![n.val, 0, 0] (slices_out n) (starts n)]
  refine (update_at _ _ n t r k).trans ?_
  rw [v194_at V n hc]

theorem step16_at (n : Fin 64) (hc : V (Proc.devRef .tc main_v142_10) = fun _ => BitVec.ofNat 32 n.val) (t : Fin 64) (r : Fin 32) (k : Fin 256) :
    step_main_v142_16 (F := Ideal) V (ix3 t r k)
      = if t = n then cellH (gates (uB V) (gB V r n) (hB V r)) (cB V r) k else V (Proc.devRef .tc main_v142_16) (ix3 t r k) := by
  unfold step_main_v142_16
  simp only [hc, id]
  rw [WordCmp.dynamicUpdateSlice_eq_update _ _ _ _ ![n.val, 0, 0] (slices_out n) (starts n)]
  refine (update_at _ _ n t r k).trans ?_
  rw [v233_at V n hc]

/-! ## After `n` trips -/

/-- What the carried buffers hold after `n` trips from `V0`. -/
structure Inv (V0 V : Valuation τ sig (Elt Ideal)) (n : ℕ) : Prop where
  eU : uF V = uF V0 ∧ uB V = uB V0
  eG : gF V = gF V0 ∧ gB V = gB V0
  ctr : V (Proc.devRef .tc main_v142_10) = fun _ => BitVec.ofNat 32 n
  fwd : ∀ r, hF V r = (state (uF V0) (gF V0 r) n).1 ∧ cF V r = (state (uF V0) (gF V0 r) n).2
  bwd : ∀ r, hB V r = (state (uB V0) (gB V0 r) n).1 ∧ cB V r = (state (uB V0) (gB V0 r) n).2
  yF : ∀ (t : Fin 64) r k, t.val < n → V (Proc.devRef .tc main_v142_15) (ix3 t r k) = (state (uF V0) (gF V0 r) (t.val + 1)).1 k
  yB : ∀ (t : Fin 64) r k, t.val < n → V (Proc.devRef .tc main_v142_16) (ix3 t r k) = (state (uB V0) (gB V0 r) (t.val + 1)).1 k

theorem step_inv (V0 V : Valuation τ sig (Elt Ideal)) (n : ℕ) (hn : n < 64) (h : Inv V0 V n) : Inv V0 (STEP V) (n + 1) := by
  obtain ⟨⟨eU1, eU2⟩, ⟨eG1, eG2⟩, hc, hf, hb, yF, yB⟩ := h
  have hc' : V (Proc.devRef .tc main_v142_10) = fun _ => BitVec.ofNat 32 (⟨n, hn⟩ : Fin 64).val := hc
  refine ⟨⟨?_, ?_⟩, ⟨?_, ?_⟩, ?_, fun r => ⟨?_, ?_⟩, fun r => ⟨?_, ?_⟩, fun t r k ht => ?_, fun t r k ht => ?_⟩
  · rw [← eU1]; unfold uF; rw [STEP_main_v142_3]
  · rw [← eU2]; unfold uB; rw [STEP_main_v142_7]
  · rw [← eG1]; unfold gF; rw [STEP_main_v142_2, STEP_main_v142_4, STEP_main_v142_5, STEP_main_v142_0]
  · rw [← eG2]; unfold gB; rw [STEP_main_v142_6, STEP_main_v142_8, STEP_main_v142_9, STEP_main_v142_1]
  · rw [STEP_main_v142_10]
    unfold step_main_v142_10
    rw [hc]
    funext i
    show BitVec.ofNat 32 n + 1#32 = BitVec.ofNat 32 (n + 1)
    rw [BitVec.ofNat_add]
  · funext k
    unfold hF
    rw [STEP_main_v142_11, state_succ _ _ hn]
    refine (v194_at V ⟨n, hn⟩ hc' r k).trans ?_
    rw [eU1, eG1, (hf r).1, (hf r).2]
  · funext k
    unfold cF
    rw [STEP_main_v142_12, state_succ _ _ hn]
    refine (v186_at V ⟨n, hn⟩ hc' r k).trans ?_
    rw [eU1, eG1, (hf r).1, (hf r).2]
  · funext k
    unfold hB
    rw [STEP_main_v142_13, state_succ _ _ hn]
    refine (v233_at V ⟨n, hn⟩ hc' r k).trans ?_
    rw [eU2, eG2, (hb r).1, (hb r).2]
  · funext k
    unfold cB
    rw [STEP_main_v142_14, state_succ _ _ hn]
    refine (v225_at V ⟨n, hn⟩ hc' r k).trans ?_
    rw [eU2, eG2, (hb r).1, (hb r).2]
  · rw [STEP_main_v142_15]
    refine (step15_at V ⟨n, hn⟩ hc' t r k).trans ?_
    split
    · rename_i e
      subst e
      rw [state_succ _ _ hn, eU1, eG1, (hf r).1, (hf r).2]
    · rename_i e
      exact yF t r k (by have : t.val ≠ n := fun q => e (Fin.ext q); omega)
  · rw [STEP_main_v142_16]
    refine (step16_at V ⟨n, hn⟩ hc' t r k).trans ?_
    split
    · rename_i e
      subst e
      rw [state_succ _ _ hn, eU2, eG2, (hb r).1, (hb r).2]
    · rename_i e
      exact yB t r k (by have : t.val ≠ n := fun q => e (Fin.ext q); omega)

theorem iter_inv (V0 : Valuation τ sig (Elt Ideal)) (h0 : Inv V0 V0 0) : ∀ n ≤ 64, Inv V0 (STEP^[n] V0) n
  | 0, _ => h0
  | n + 1, h => by
    rw [Function.iterate_succ_apply']
    exact step_inv V0 _ n (by omega) (iter_inv V0 h0 n (by omega))

/-! ## After the loop -/

/-- A nonnegative finite factor leaves a sum. -/
theorem sum_mul_const {ι : Type} (s : Finset ι) (f : ι → EReal) (q : EReal) (h0 : 0 ≤ q) (ht : q ≠ ⊤) : ∑ i ∈ s, f i * q = (∑ i ∈ s, f i) * q := by
  classical
  induction s using Finset.induction_on with
  | empty => simp
  | insert a s ha ih => rw [Finset.sum_insert ha, Finset.sum_insert ha, ih, EReal.right_distrib_of_nonneg_of_ne_top h0 ht]

/-- The mean over time before the last product is the last product of the totals, times 1/64. -/
theorem mean_product (S w : Fin 256 → EReal) : ∑ k, Ideal.div (S k) (Ideal.ofBits .f32 0x42800000#32) * w k = (∑ k, S k * w k) * ((1 / 64 : ℝ) : EReal) := by
  rw [← sum_mul_const _ _ _ (by exact_mod_cast (by norm_num : (0 : ℝ) ≤ 1 / 64)) (EReal.coe_ne_top _)]
  refine Finset.sum_congr rfl fun k _ => ?_
  rw [Lit.f64, Ideal.div_coe (by norm_num), mul_right_comm]

/-- The stacked hidden states. -/
def yF (V : Valuation τ sig (Elt Ideal)) (t : Fin 64) (r : Fin 32) (k : Fin 256) : EReal := V (Proc.devRef .tc main_v142_15) (ix3 t r k)
def yB (V : Valuation τ sig (Elt Ideal)) (t : Fin 64) (r : Fin 32) (k : Fin 256) : EReal := V (Proc.devRef .tc main_v142_16) (ix3 t r k)

theorem out_at (V0 V : Valuation τ sig (Elt Ideal)) (h : Inv V0 V 64) (r : Fin 32) (d : Fin 512) :
    out_main_v153 (F := Ideal) V (ix2 r d)
      = ((∑ k : Fin 256, total (uF V0) (gF V0 r) 64 k * V (Proc.devRef .tc main_arg17) (ix2 (⟨k.val, by omega⟩ : Fin 512) d))
          + ∑ k : Fin 256, total (uB V0) (gB V0 r) 64 k * V (Proc.devRef .tc main_arg17) (ix2 (⟨256 + k.val, by omega⟩ : Fin 512) d))
        * ((1 / 64 : ℝ) : EReal) + V (Proc.devRef .tc main_arg18) (ix1 d) := by
  unfold out_main_v153
  clean_types
  pointwise
  have eF : ∀ x, ∑ t : Fin 64, yF V t r x = total (uF V0) (gF V0 r) 64 x := by
    intro x
    unfold total
    rw [Finset.sum_range]
    exact Finset.sum_congr rfl fun t _ => h.yF t r x t.isLt
  have eB : ∀ x, ∑ t : Fin 64, yB V t.rev r x = total (uB V0) (gB V0 r) 64 x := by
    intro x
    unfold total
    rw [Finset.sum_range]
    refine (Equiv.sum_comp Fin.revPerm (fun t : Fin 64 => yB V t r x)).trans ?_
    exact Finset.sum_congr rfl fun t _ => h.yB t r x t.isLt
  simp only [List.mem_singleton, Fin.reduceEq, ↓reduceIte]
  refine congrArg (· + _) ?_
  refine (congrArg₂ (· + ·) (mean_product (fun x => ∑ t : Fin 64, yF V t r x) _) (mean_product (fun x => ∑ t : Fin 64, yB V t.rev r x) _)).trans ?_
  simp only [eF, eB]
  rw [← EReal.right_distrib_of_nonneg_of_ne_top (by exact_mod_cast (by norm_num : (0 : ℝ) ≤ 1 / 64)) (EReal.coe_ne_top _)]

end Cert.Proof.RLoop

end
-- ==== Proof.RVal.lean ====
/- The reference's result: its stretches before the loop, the loop and its end, as the network's answer. -/
module

public import proofs.«01_k».proof.Proof.RPre
public import proofs.«01_k».proof.Proof.RLoop

@[expose] public section

noncomputable section

namespace Cert.Proof.RVal

open Idealize.ShloMosaic Idealize.ShloMosaic.StableHlo Cert.ReferenceIdeal Cert.ReferenceIdeal.Gen Cert.ReferenceIdeal.Value
open Cert.Proof.Spec Cert.Proof.RGraph Cert.Proof.RLayer Cert.Proof.RPre Cert.Proof.RLoop

variable (m : (ℓ : Loc nD τ sig) → Buf (Elt Ideal) ℓ) (c : Dev nD)

/-- The arguments, by coordinates. -/
def args : Args where
  net :=
    { w1 := fun k d => m (c.tc.loc main_arg1) (ix2 k d)
      b1 := fun d => m (c.tc.loc main_arg2) (ix1 d)
      w2 := fun k d => m (c.tc.loc main_arg3) (ix2 k d)
      b2 := fun d => m (c.tc.loc main_arg4) (ix1 d)
      w3 := fun k d => m (c.tc.loc main_arg5) (ix2 k d)
      b3 := fun d => m (c.tc.loc main_arg6) (ix1 d)
      w4 := fun k d => m (c.tc.loc main_arg7) (ix2 k d)
      b4 := fun d => m (c.tc.loc main_arg8) (ix1 d) }
  lstm :=
    { wf := fun j f => m (c.tc.loc main_arg9) (ix2 j f)
      uf := fun j k => m (c.tc.loc main_arg10) (ix2 j k)
      bxf := fun j => m (c.tc.loc main_arg11) (ix1 j)
      bhf := fun j => m (c.tc.loc main_arg12) (ix1 j)
      wb := fun j f => m (c.tc.loc main_arg13) (ix2 j f)
      ub := fun j k => m (c.tc.loc main_arg14) (ix2 j k)
      bxb := fun j => m (c.tc.loc main_arg15) (ix1 j)
      bhb := fun j => m (c.tc.loc main_arg16) (ix1 j)
      wo := fun k d => m (c.tc.loc main_arg17) (ix2 k d)
      bo := fun d => m (c.tc.loc main_arg18) (ix1 d) }
  x := fun b t n l => m (c.tc.loc main_arg0) (ix4 b t n l)

/-! ## The contents after each stretch -/

def S1 : Valuation τ sig (Elt Ideal) := st1 (launchContents m c)
def S2 : Valuation τ sig (Elt Ideal) := st2 (S1 m c)
def S3 : Valuation τ sig (Elt Ideal) := st3 (S2 m c)
def S4 : Valuation τ sig (Elt Ideal) := st4 (S3 m c)
def S5 : Valuation τ sig (Elt Ideal) := st5 (S4 m c)
def E : Valuation τ sig (Elt Ideal) := after hostOps0_10 (S5 m c)

theorem entry_eq : entryContents preI m c = E m c := by
  simp only [entryContents, afterL_cons, afterL_nil]
  rfl

theorem arg1 (r : Ref sig .tc) (h : r ∈ names.drop 2) : S1 m c (Proc.devRef .tc r) = m (c.tc.loc r) := st1_keep _ r h
theorem arg2 (r : Ref sig .tc) (h : r ∈ names.drop 2) : S2 m c (Proc.devRef .tc r) = m (c.tc.loc r) :=
  (st2_keep _ r (List.mem_of_mem_drop h)).trans (arg1 m c r h)
theorem arg3 (r : Ref sig .tc) (h : r ∈ names.drop 2) : S3 m c (Proc.devRef .tc r) = m (c.tc.loc r) :=
  (st3_keep _ r (List.mem_cons_of_mem _ (List.mem_of_mem_drop h))).trans (arg2 m c r h)
theorem arg4 (r : Ref sig .tc) (h : r ∈ names.drop 2) : S4 m c (Proc.devRef .tc r) = m (c.tc.loc r) :=
  (st4_keep _ r (List.mem_cons_of_mem _ (List.mem_of_mem_drop h))).trans (arg3 m c r h)
theorem arg5 (r : Ref sig .tc) (h : r ∈ names.drop 2) : S5 m c (Proc.devRef .tc r) = m (c.tc.loc r) :=
  (st5_keep _ r (List.mem_cons_of_mem _ (List.mem_of_mem_drop h))).trans (arg4 m c r h)

theorem lists1 : Lists (S1 m c) := ⟨src_at _, dst_at _⟩
theorem Lists.next {V V' : Valuation τ sig (Elt Ideal)} (h : Lists V) (e4 : V' (Proc.devRef .tc main_v4) = V (Proc.devRef .tc main_v4))
    (e8 : V' (Proc.devRef .tc main_v8) = V (Proc.devRef .tc main_v8)) : Lists V' :=
  ⟨fun e => by rw [e4]; exact h.s e, fun e => by rw [e8]; exact h.t e⟩
theorem lists2 : Lists (S2 m c) := Lists.next (lists1 m c) (st2_keep _ _ (by decide +kernel)) (st2_keep _ _ (by decide +kernel))
theorem lists3 : Lists (S3 m c) := Lists.next (lists2 m c) (st3_keep _ _ (by decide +kernel)) (st3_keep _ _ (by decide +kernel))
theorem lists4 : Lists (S4 m c) := Lists.next (lists3 m c) (st4_keep _ _ (by decide +kernel)) (st4_keep _ _ (by decide +kernel))

theorem norms2 (e : Fin 47808) : S2 m c (Proc.devRef .tc main_v37) (ix1 e) = dinv (es e) * dinv (ed e) := norm_at _ (lists1 m c) (dinv_at _) e
theorem norms3 (e : Fin 47808) : S3 m c (Proc.devRef .tc main_v37) (ix1 e) = dinv (es e) * dinv (ed e) := by
  unfold S3
  rw [st3_keep _ main_v37 (by decide +kernel)]
  exact norms2 m c e
theorem norms4 (e : Fin 47808) : S4 m c (Proc.devRef .tc main_v37) (ix1 e) = dinv (es e) * dinv (ed e) := by
  unfold S4
  rw [st4_keep _ main_v37 (by decide +kernel)]
  exact norms3 m c e

/-! ## The layers -/

def X1 : Fin 45056 → Fin 64 → EReal := layer (args m c).net.w1 (args m c).net.b1 (args m c).rows
def X2 : Fin 45056 → Fin 128 → EReal := layer (args m c).net.w2 (args m c).net.b2 (X1 m c)
def X3 : Fin 45056 → Fin 256 → EReal := layer (args m c).net.w3 (args m c).net.b3 (X2 m c)
def X4 : Fin 45056 → Fin 512 → EReal := layer (args m c).net.w4 (args m c).net.b4 (X3 m c)

theorem x1 (R : Fin 45056) (d : Fin 64) : S2 m c (Proc.devRef .tc main_v63) (ix2 R d) = X1 m c R d := by
  refine (layer1_at _ (lists1 m c) (dinv_at _) R d).trans ?_
  rw [arg1 m c main_arg0 (by decide +kernel), arg1 m c main_arg1 (by decide +kernel), arg1 m c main_arg2 (by decide +kernel)]
  rfl
theorem x2 (R : Fin 45056) (d : Fin 128) : S3 m c (Proc.devRef .tc main_v86) (ix2 R d) = X2 m c R d := by
  refine (layer2_at _ (lists2 m c) (norms2 m c) (X1 m c) (x1 m c) R d).trans ?_
  rw [arg2 m c main_arg3 (by decide +kernel), arg2 m c main_arg4 (by decide +kernel)]
  rfl
theorem x3 (R : Fin 45056) (d : Fin 256) : S4 m c (Proc.devRef .tc main_v109) (ix2 R d) = X3 m c R d := by
  refine (layer3_at _ (lists3 m c) (norms3 m c) (X2 m c) (x2 m c) R d).trans ?_
  rw [arg3 m c main_arg5 (by decide +kernel), arg3 m c main_arg6 (by decide +kernel)]
  rfl
theorem x4 (R : Fin 45056) (d : Fin 512) : S5 m c (Proc.devRef .tc main_v132) (ix2 R d) = X4 m c R d := by
  refine (layer4_at _ (lists4 m c) (norms4 m c) (X3 m c) (x3 m c) R d).trans ?_
  rw [arg4 m c main_arg7 (by decide +kernel), arg4 m c main_arg8 (by decide +kernel)]
  rfl

/-- A group's features from its 22 rows. -/
theorem feature_eq (g : Fin 2048) (f : Fin 512) : by22 (∑ n, X4 m c (rowOf g n) f) = (args m c).net.feature (args m c).rows g f := by
  unfold Net.feature
  refine congrArg by22 (Finset.sum_congr rfl fun n _ => ?_)
  by_cases h : g.val = 0
  · rw [if_pos h]
    have e : ∀ n, rowOf g n = low n := fun n => Fin.ext (show 22 * g.val + n.val = n.val by omega)
    simp only [e]
    exact layers_low (args m c).net (args m c).rows n f
  · rw [if_neg h]
    exact layers_plain (args m c).net (args m c).rows (rowOf g n) (show ¬ 22 * g.val + n.val < 22 by omega) f

/-! ## The loop's entry -/

/-- The features by group. -/
def feat : Fin 2048 → Fin 512 → EReal := (args m c).net.feature (args m c).rows

theorem fwd (t : Fin 64) (b : Fin 32) (f : Fin 512) : E m c (Proc.devRef .tc main_v142_0) (ix3 t b f) = feat m c (groupOf b t) f :=
  (fwd_at _ (X4 m c) (x4 m c) t b f).trans (feature_eq m c _ f)
theorem bwd (t : Fin 64) (b : Fin 32) (f : Fin 512) : E m c (Proc.devRef .tc main_v142_1) (ix3 t b f) = feat m c (groupOf b t.rev) f :=
  (bwd_at _ (X4 m c) (x4 m c) t b f).trans (feature_eq m c _ f)

theorem e2 (j : Fin 1024) (f : Fin 512) : E m c (Proc.devRef .tc main_v142_2) (ix2 j f) = (args m c).lstm.wf j f := by
  unfold E
  after_reads_at
  rw [arg5 m c main_arg9 (by decide +kernel)]
  rfl
theorem e3 (j : Fin 1024) (f : Fin 256) : E m c (Proc.devRef .tc main_v142_3) (ix2 j f) = (args m c).lstm.uf j f := by
  unfold E
  after_reads_at
  rw [arg5 m c main_arg10 (by decide +kernel)]
  rfl
theorem e4 (j : Fin 1024) : E m c (Proc.devRef .tc main_v142_4) (ix1 j) = (args m c).lstm.bxf j := by
  unfold E
  after_reads_at
  rw [arg5 m c main_arg11 (by decide +kernel)]
  rfl
theorem e5 (j : Fin 1024) : E m c (Proc.devRef .tc main_v142_5) (ix1 j) = (args m c).lstm.bhf j := by
  unfold E
  after_reads_at
  rw [arg5 m c main_arg12 (by decide +kernel)]
  rfl
theorem e6 (j : Fin 1024) (f : Fin 512) : E m c (Proc.devRef .tc main_v142_6) (ix2 j f) = (args m c).lstm.wb j f := by
  unfold E
  after_reads_at
  rw [arg5 m c main_arg13 (by decide +kernel)]
  rfl
theorem e7 (j : Fin 1024) (f : Fin 256) : E m c (Proc.devRef .tc main_v142_7) (ix2 j f) = (args m c).lstm.ub j f := by
  unfold E
  after_reads_at
  rw [arg5 m c main_arg14 (by decide +kernel)]
  rfl
theorem e8 (j : Fin 1024) : E m c (Proc.devRef .tc main_v142_8) (ix1 j) = (args m c).lstm.bxb j := by
  unfold E
  after_reads_at
  rw [arg5 m c main_arg15 (by decide +kernel)]
  rfl
theorem e9 (j : Fin 1024) : E m c (Proc.devRef .tc main_v142_9) (ix1 j) = (args m c).lstm.bhb j := by
  unfold E
  after_reads_at
  rw [arg5 m c main_arg16 (by decide +kernel)]
  rfl

theorem inGate_congr {W W' : Fin 1024 → Fin 512 → EReal} {a a' b b' : Fin 1024 → EReal} {v v' : Fin 512 → EReal} (hW : ∀ j f, W j f = W' j f)
    (ha : ∀ j, a j = a' j) (hb : ∀ j, b j = b' j) (hv : ∀ f, v f = v' f) : inGate W a b v = inGate W' a' b' v' := by
  rw [funext₂ hW, funext ha, funext hb, funext hv]

theorem uF_eq : uF (E m c) = (args m c).lstm.uf := funext₂ (e3 m c)
theorem uB_eq : uB (E m c) = (args m c).lstm.ub := funext₂ (e7 m c)
theorem gF_eq (r : Fin 32) : gF (E m c) r = (args m c).lstm.gxf (feat m c) r := by
  funext t
  exact inGate_congr (e2 m c) (e4 m c) (e5 m c) (fwd m c t r)
theorem gB_eq (r : Fin 32) : gB (E m c) r = (args m c).lstm.gxb (feat m c) r := by
  funext t
  exact inGate_congr (e6 m c) (e8 m c) (e9 m c) (bwd m c t r)

theorem z11 (r : Fin 32) (k : Fin 256) : E m c (Proc.devRef .tc main_v142_11) (ix2 r k) = (0 : EReal) := by
  unfold E
  after_reads_at
  exact Ideal.ofBits_zero_f32
theorem z12 (r : Fin 32) (k : Fin 256) : E m c (Proc.devRef .tc main_v142_12) (ix2 r k) = (0 : EReal) := by
  unfold E
  after_reads_at
  exact Ideal.ofBits_zero_f32
theorem z13 (r : Fin 32) (k : Fin 256) : E m c (Proc.devRef .tc main_v142_13) (ix2 r k) = (0 : EReal) := by
  unfold E
  after_reads_at
  exact Ideal.ofBits_zero_f32
theorem z14 (r : Fin 32) (k : Fin 256) : E m c (Proc.devRef .tc main_v142_14) (ix2 r k) = (0 : EReal) := by
  unfold E
  after_reads_at
  exact Ideal.ofBits_zero_f32

theorem inv0 : Inv (E m c) (E m c) 0 where
  eU := ⟨rfl, rfl⟩
  eG := ⟨rfl, rfl⟩
  ctr := by rw [← entry_eq]; exact ctr_entry m c
  fwd := fun r => ⟨funext (z11 m c r), funext (z12 m c r)⟩
  bwd := fun r => ⟨funext (z13 m c r), funext (z14 m c r)⟩
  yF := fun _ _ _ h => absurd h (Nat.not_lt_zero _)
  yB := fun _ _ _ h => absurd h (Nat.not_lt_zero _)

/-! ## The result -/

theorem result_at (r : Fin 32) (d : Fin 512) : out_main_v153 (F := Ideal) (STEP^[64] (entryContents preI m c)) (ix2 r d) = (args m c).answer r d := by
  have h := iter_inv (E m c) (inv0 m c) 64 le_rfl
  rw [← entry_eq] at h
  refine (out_at _ _ h r d).trans ?_
  rw [iter_main_arg17, iter_main_arg18, entry_eq, uF_eq, uB_eq, gF_eq, gB_eq]
  rfl

end Cert.Proof.RVal

end
-- ==== Proof.Algebraic.lean ====
/- At equal arguments the idealized kernel and the reference end with the same result: each ends with the network's answer. -/
module

public import proofs.«01_k».proof.Defs
public import proofs.«01_k».proof.Proof.KRun
public import proofs.«01_k».proof.Proof.RVal

@[expose] public section

set_option maxRecDepth 16384
set_option maxHeartbeats 800000

noncomputable section

namespace Cert.Proof.Algebraic

open Cert.Proof.Spec Idealize.ShloMosaic Idealize.ShloMosaic.TcCoe Idealize.SL Idealize.SL.Sem

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => KRun.answer m c, KRun.run m g, ?_⟩
  refine (θ_run Cert.ReferenceIdeal.defs _ _).mono (fun r h c => ⟨(h c).1.trans ?_, (h c).2⟩) (Cert.ReferenceIdeal.Value.run m' g')
  have e : RVal.args m' c = KHost.args m c := by
    obtain ⟨h0, h1, h2, h3, h4, h5, h6, h7, h8, h9, h10, h11, h12, h13, h14, h15, h16, h17, h18⟩ := hargs c
    unfold RVal.args KHost.args
    rw [h0, h1, h2, h3, h4, h5, h6, h7, h8, h9, h10, h11, h12, h13, h14, h15, h16, h17, h18]
  funext y
  obtain ⟨b, d, rfl⟩ : ∃ (b : Fin 32) (d : Fin 512), y = ix2 b d := ⟨y 0, y 1, by funext a; match a with | 0 => rfl | 1 => rfl⟩
  exact (RVal.result_at m' c b d).trans (congrArg (fun a : Args => a.answer b d) e)

end Cert.Proof.Algebraic

end
-- ==== Proof.lean ====
/- The claims: the kernel, its idealization and the reference run, end with their arguments unchanged and with every
   semaphore counter at zero; the named constant `inv_22` of the idealization is the exact 1/22; and at equal arguments the
   idealized kernel and the reference end with the same result. -/
module

public import proofs.«01_k».proof.Defs
public import proofs.«01_k».proof.Proof.KernelFrame
public import proofs.«01_k».proof.Proof.Tables
public import proofs.«01_k».proof.Proof.RefFrame
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => KernelFrame.frame m g, fun m g _ => Tables.frame m g, fun m g _ => RefFrame.frame m g,
  IdealRules.named_const.statement Cert.KernelIdeal.κ "inv_22" .f32 0x3D3A2E8C#32 ((1 / 22 : ℝ) : EReal) rfl, Algebraic.algebraic⟩

end Cert.Proof

end
